-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper [hPre_proper : Cert.Pre_proper.Facts] (m : (ℓ : Loc Cert.KernelIdeal.nD Cert.KernelIdeal.τ Cert.KernelIdeal.sig) → Buf (Elt Ideal) ℓ) : Prop :=
  ∀ c : Dev Cert.KernelIdeal.nD,
    (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper [hPre_proper : Cert.Pre_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_proper [hKernelIdeal : Cert.KernelIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_proper [hReferenceIdeal : Cert.ReferenceIdeal.Facts] [hPre_proper : Cert.Pre_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_proper [hKernelIdeal : Cert.KernelIdeal.Facts] [hReferenceIdeal : Cert.ReferenceIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v401) = v0 c
          ∧ r.2.mem ((c.tc : Thread Cert.ReferenceIdeal.nD Cert.ReferenceIdeal.τ).loc Cert.ReferenceIdeal.main_v402) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_proper : Cert.Pre_proper.Facts),
    quiescent_Kernel (hKernel := hKernel)
    ∧ quiescent_KernelIdeal (hKernelIdeal := hKernelIdeal)
    ∧ quiescent_KernelIdeal_pre_proper (hKernelIdeal := hKernelIdeal) (hPre_proper := hPre_proper)
    ∧ quiescent_ReferenceIdeal (hReferenceIdeal := hReferenceIdeal)
    ∧ quiescent_ReferenceIdeal_pre_proper (hReferenceIdeal := hReferenceIdeal) (hPre_proper := hPre_proper)
    ∧ preserves_Kernel_KernelIdeal
    ∧ algebraic_KernelIdeal_ReferenceIdeal_pre_proper (hKernelIdeal := hKernelIdeal) (hReferenceIdeal := hReferenceIdeal) (hPre_proper := hPre_proper)
-- ==== Pre_proper.lean ====
abbrev S32x512x28 : Shape := ⟨3, ![32, 512, 28]⟩
abbrev S32 : Shape := ⟨1, ![32]⟩
abbrev S32x512 : Shape := ⟨2, ![32, 512]⟩
abbrev S28x28 : Shape := ⟨2, ![28, 28]⟩
abbrev S512 : Shape := ⟨1, ![512]⟩
abbrev S_ : Shape := ⟨0, ![]⟩
abbrev S1x512 : Shape := ⟨2, ![1, 512]⟩
abbrev S32x1 : Shape := ⟨2, ![32, 1]⟩

class Facts : Prop where
  bcast_S_S32x512x28 : S_.BroadcastsInDim S32x512x28 (![] : Fin 0 → Fin S32x512x28.rank)
  bcast_S_S28x28 : S_.BroadcastsInDim S28x28 (![] : Fin 0 → Fin S28x28.rank)
  bcast_S_S32 : S_.BroadcastsInDim S32 (![] : Fin 0 → Fin S32.rank)
  bcast_S_S32x512 : S_.BroadcastsInDim S32x512 (![] : Fin 0 → Fin S32x512.rank)
  bcast_S512_S1x512_1 : S512.BroadcastsInDim S1x512 (![1] : Fin 1 → Fin S1x512.rank)
  bcast_S32_S32x1_0 : S32.BroadcastsInDim S32x1 (![0] : Fin 1 → Fin S32x1.rank)
  bcast_S1x512_S32x512_0_1 : S1x512.BroadcastsInDim S32x512 (![0, 1] : Fin 2 → Fin S32x512.rank)
  bcast_S32x1_S32x512_0_1 : S32x1.BroadcastsInDim S32x512 (![0, 1] : Fin 2 → Fin S32x512.rank)

variable [Facts]

def fn_part1 {F : FTy → Type} [FloatOps F] (main_arg1 : IVec S32 32) (main_arg2 : IVec S32x512 32) (main_arg3 : IVec S32x512 1) (main_v0 : IVec S512 32) (main_v5 : IVec S32x512x28 1) (main_v10 : IVec S28x28 1) (main_v15 : IVec S32 1) (main_v16 : IVec S32x512 32) : IVec S32x512x28 1 × IVec S28x28 1 × IVec S32 1 × IVec S32x512 1 × IVec S32x512 1 :=
  let main_v17 : IVec S32x512 1 := cmpi .sge main_arg2 main_v16
  let main_c_5 : IVec S_ 32 := constantI S_ 32 28#32
  let main_v18 : IVec S32x512 32 := broadcastInDim S32x512 ![] bcast_S_S32x512 main_c_5
  let main_v19 : IVec S32x512 1 := cmpi .slt main_arg2 main_v18
  let main_v20 : IVec S32x512 1 := andi main_v17 main_v19
  let main_v21 : IVec S1x512 32 := broadcastInDim S1x512 ![1] bcast_S512_S1x512_1 main_v0
  let main_v22 : IVec S32x1 32 := broadcastInDim S32x1 ![0] bcast_S32_S32x1_0 main_arg1
  let main_v23 : IVec S32x512 32 := broadcastInDim S32x512 ![0, 1] bcast_S1x512_S32x512_0_1 main_v21
  let main_v24 : IVec S32x512 32 := broadcastInDim S32x512 ![0, 1] bcast_S32x1_S32x512_0_1 main_v22
  let main_v25 : IVec S32x512 1 := cmpi .slt main_v23 main_v24
  let main_v26 : IVec S32x512 1 := cmpi .eq main_arg3 main_v25
  (main_v5, main_v10, main_v15, main_v20, main_v26)

def fn {F : FTy → Type} [FloatOps F] (main_arg0 : FVec F S32x512x28 .f32) (main_arg1 : IVec S32 32) (main_arg2 : IVec S32x512 32) (main_arg3 : IVec S32x512 1) (main_arg4 : FVec F S28x28 .f32) : IVec S32x512x28 1 × IVec S28x28 1 × IVec S32 1 × IVec S32x512 1 × IVec S32x512 1 :=
  let main_v0 : IVec S512 32 := iotaInDim S512 32 0
  let main_cst : FVec F S_ .f32 := constant S_ .f32 0xFF800000#32
  let main_v1 : FVec F S32x512x28 .f32 := broadcastInDim S32x512x28 ![] bcast_S_S32x512x28 main_cst
  let main_v2 : IVec S32x512x28 1 := cmpf .ogt main_arg0 main_v1
  let main_cst_0 : FVec F S_ .f32 := constant S_ .f32 0x7F800000#32
  let main_v3 : FVec F S32x512x28 .f32 := broadcastInDim S32x512x28 ![] bcast_S_S32x512x28 main_cst_0
  let main_v4 : IVec S32x512x28 1 := cmpf .olt main_arg0 main_v3
  let main_v5 : IVec S32x512x28 1 := andi main_v2 main_v4
  let main_cst_1 : FVec F S_ .f32 := constant S_ .f32 0xFF800000#32
  let main_v6 : FVec F S28x28 .f32 := broadcastInDim S28x28 ![] bcast_S_S28x28 main_cst_1
  let main_v7 : IVec S28x28 1 := cmpf .ogt main_arg4 main_v6
  let main_cst_2 : FVec F S_ .f32 := constant S_ .f32 0x7F800000#32
  let main_v8 : FVec F S28x28 .f32 := broadcastInDim S28x28 ![] bcast_S_S28x28 main_cst_2
  let main_v9 : IVec S28x28 1 := cmpf .olt main_arg4 main_v8
  let main_v10 : IVec S28x28 1 := andi main_v7 main_v9
  let main_c : IVec S_ 32 := constantI S_ 32 256#32
  let main_v11 : IVec S32 32 := broadcastInDim S32 ![] bcast_S_S32 main_c
  let main_v12 : IVec S32 1 := cmpi .sge main_arg1 main_v11
  let main_c_3 : IVec S_ 32 := constantI S_ 32 512#32
  let main_v13 : IVec S32 32 := broadcastInDim S32 ![] bcast_S_S32 main_c_3
  let main_v14 : IVec S32 1 := cmpi .sle main_arg1 main_v13
  let main_v15 : IVec S32 1 := andi main_v12 main_v14
  let main_c_4 : IVec S_ 32 := constantI S_ 32 0#32
  let main_v16 : IVec S32x512 32 := broadcastInDim S32x512 ![] bcast_S_S32x512 main_c_4
  fn_part1 (F := F) main_arg1 main_arg2 main_arg3 main_v0 main_v5 main_v10 main_v15 main_v16
-- ==== Kernel.lean ====
abbrev S32x512x28 : Shape := ⟨3, ![32, 512, 28]⟩
abbrev S32 : Shape := ⟨1, ![32]⟩
abbrev S32x512 : Shape := ⟨2, ![32, 512]⟩
abbrev S28x28 : Shape := ⟨2, ![28, 28]⟩
abbrev S512x32x28 : Shape := ⟨3, ![512, 32, 28]⟩
abbrev S1x512x32x28 : Shape := ⟨4, ![1, 512, 32, 28]⟩
abbrev S_ : Shape := ⟨0, ![]⟩
abbrev S512x32 : Shape := ⟨2, ![512, 32]⟩
abbrev S1x512x32 : Shape := ⟨3, ![1, 512, 32]⟩
abbrev S1x1x32 : Shape := ⟨3, ![1, 1, 32]⟩
abbrev S28x1 : Shape := ⟨2, ![28, 1]⟩
abbrev S28 : Shape := ⟨1, ![28]⟩
abbrev S1x28 : Shape := ⟨2, ![1, 28]⟩
abbrev S1x1x128 : Shape := ⟨3, ![1, 1, 128]⟩
abbrev S1x32 : Shape := ⟨2, ![1, 32]⟩
abbrev S32x1 : Shape := ⟨2, ![32, 1]⟩
abbrev S32x28 : Shape := ⟨2, ![32, 28]⟩
abbrev S16x32x28 : Shape := ⟨3, ![16, 32, 28]⟩
abbrev S1x32x28 : Shape := ⟨3, ![1, 32, 28]⟩
abbrev S1x1x32x28 : Shape := ⟨4, ![1, 1, 32, 28]⟩
abbrev S1x16x32x28 : Shape := ⟨4, ![1, 16, 32, 28]⟩
abbrev S1x16x32 : Shape := ⟨3, ![1, 16, 32]⟩
abbrev S16x32 : Shape := ⟨2, ![16, 32]⟩
abbrev S16x32x1 : Shape := ⟨3, ![16, 32, 1]⟩
abbrev S15x32x28 : Shape := ⟨3, ![15, 32, 28]⟩
abbrev S512x28 : Shape := ⟨2, ![512, 28]⟩
abbrev S1x1x28 : Shape := ⟨3, ![1, 1, 28]⟩
abbrev S1 : Shape := ⟨1, ![1]⟩
abbrev S1x1 : Shape := ⟨2, ![1, 1]⟩
abbrev S1x128 : Shape := ⟨2, ![1, 128]⟩
abbrev S1x28x28 : Shape := ⟨3, ![1, 28, 28]⟩
abbrev S1x1x1 : Shape := ⟨3, ![1, 1, 1]⟩

abbrev nBuf : Space → Nat
  | .hbm => 19
  | .vmem => 7
  | .smem => 0
  | _ => 0

abbrev bufTy : (tb : Table) → Fin (tcTables nBuf tb) → BufTy
  | .hbm, ⟨0, _⟩ => ⟨S32x512x28, .f32⟩
  | .hbm, ⟨1, _⟩ => ⟨S32, .i32⟩
  | .hbm, ⟨2, _⟩ => ⟨S32x512, .i32⟩
  | .hbm, ⟨3, _⟩ => ⟨S32x512, .i1⟩
  | .hbm, ⟨4, _⟩ => ⟨S28x28, .f32⟩
  | .hbm, ⟨5, _⟩ => ⟨S512x32x28, .f32⟩
  | .hbm, ⟨6, _⟩ => ⟨S1x512x32x28, .f32⟩
  | .hbm, ⟨7, _⟩ => ⟨S_, .i32⟩
  | .hbm, ⟨8, _⟩ => ⟨S_, .i32⟩
  | .hbm, ⟨9, _⟩ => ⟨S32x512, .i32⟩
  | .hbm, ⟨10, _⟩ => ⟨S32x512, .i32⟩
  | .hbm, ⟨11, _⟩ => ⟨S512x32, .i32⟩
  | .hbm, ⟨12, _⟩ => ⟨S1x512x32, .i32⟩
  | .hbm, ⟨13, _⟩ => ⟨S1x1x32, .i32⟩
  | .hbm, ⟨14, _⟩ => ⟨S28x1, .f32⟩
  | .hbm, ⟨15, _⟩ => ⟨S28, .f32⟩
  | .hbm, ⟨16, _⟩ => ⟨S1x28, .f32⟩
  | .hbm, ⟨17, _⟩ => ⟨S1x1x128, .f32⟩
  | .hbm, ⟨18, _⟩ => ⟨S1x1x128, .f32⟩
  | .local _ .vmem, ⟨0, _⟩ => ⟨S1x512x32x28, .f32⟩
  | .local _ .vmem, ⟨1, _⟩ => ⟨S1x512x32, .i32⟩
  | .local _ .vmem, ⟨2, _⟩ => ⟨S1x1x32, .i32⟩
  | .local _ .vmem, ⟨3, _⟩ => ⟨S28x28, .f32⟩
  | .local _ .vmem, ⟨4, _⟩ => ⟨S1x28, .f32⟩
  | .local _ .vmem, ⟨5, _⟩ => ⟨S1x1x128, .f32⟩
  | .local _ .vmem, ⟨6, _⟩ => ⟨S1x1x128, .f32⟩
  | _, _ => ⟨S32x512x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c15_i32 : BitVec 32 := 15#32
  let v30 : BitVec 32 := Scalar.addi c0_i32 c15_i32
  let c1_i32_15 : BitVec 32 := 1#32
  ⟨c0_i32, v30, c1_i32_15⟩
def k0_off1 (k0_t1 : Fin k0_t1_loop.trips) (c0_i32_31 : BitVec 32) : Fin 4 → Nat :=
  let c0_34 : Index := 0#32
  let c0_i32 : BitVec 32 := 0#32
  let c1_i32_15 : BitVec 32 := 1#32
  let arg8 : BitVec 32 := Scf.iv c0_i32 c1_i32_15 k0_t1
  let c16_i32 : BitVec 32 := 16#32
  let v69 : BitVec 32 := Scalar.muli arg8 c16_i32
  let v70 : BitVec 32 := Scalar.addi v69 c0_i32_31
  let v74 : Index := Scalar.indexCast v70
  let c0_35 : Index := 0#32
  let c0_36 : Index := 0#32
  ![0, v74.toNat, 0, 0]
def k0_off2 (k0_t1 : Fin k0_t1_loop.trips) : Fin 4 → Nat :=
  let c0_146 : Index := 0#32
  let c0_i32 : BitVec 32 := 0#32
  let c1_i32_15 : BitVec 32 := 1#32
  let arg8 : BitVec 32 := Scf.iv c0_i32 c1_i32_15 k0_t1
  let c16_i32_145 : BitVec 32 := 16#32
  let v309 : BitVec 32 := Scalar.muli arg8 c16_i32_145
  let v310 : Index := Scalar.indexCast v309
  let c0_147 : Index := 0#32
  let c0_148 : Index := 0#32
  ![0, v310.toNat, 0, 0]
def k0_off3 (k0_t1 : Fin k0_t1_loop.trips) : Fin 3 → Nat :=
  let c0_149 : Index := 0#32
  let c0_i32 : BitVec 32 := 0#32
  let c1_i32_15 : BitVec 32 := 1#32
  let arg8 : BitVec 32 := Scf.iv c0_i32 c1_i32_15 k0_t1
  let c16_i32_145 : BitVec 32 := 16#32
  let v309 : BitVec 32 := Scalar.muli arg8 c16_i32_145
  let v313 : Index := Scalar.indexCast v309
  let c0_150 : Index := 0#32
  ![0, v313.toNat, 0]
@[reducible] def k0_t2_loop : Scf.Loop 32 :=
  let c15_i32_17 : BitVec 32 := 15#32
  let c17_i32 : BitVec 32 := 17#32
  let v32 : BitVec 32 := Scalar.addi c15_i32_17 c17_i32
  let c1_i32_18 : BitVec 32 := 1#32
  ⟨c15_i32_17, v32, c1_i32_18⟩
def k0_off4 (k0_t2 : Fin k0_t2_loop.trips) (c0_i32_31 : BitVec 32) : Fin 4 → Nat :=
  let c0_34 : Index := 0#32
  let c15_i32_17 : BitVec 32 := 15#32
  let c1_i32_18 : BitVec 32 := 1#32
  let arg8 : BitVec 32 := Scf.iv c15_i32_17 c1_i32_18 k0_t2
  let c16_i32 : BitVec 32 := 16#32
  let v69 : BitVec 32 := Scalar.muli arg8 c16_i32
  let v70 : BitVec 32 := Scalar.addi v69 c0_i32_31
  let v74 : Index := Scalar.indexCast v70
  let c0_35 : Index := 0#32
  let c0_36 : Index := 0#32
  ![0, v74.toNat, 0, 0]
def k0_off5 (k0_t2 : Fin k0_t2_loop.trips) : Fin 4 → Nat :=
  let c0_178 : Index := 0#32
  let c15_i32_17 : BitVec 32 := 15#32
  let c1_i32_18 : BitVec 32 := 1#32
  let arg8 : BitVec 32 := Scf.iv c15_i32_17 c1_i32_18 k0_t2
  let c16_i32_177 : BitVec 32 := 16#32
  let v405 : BitVec 32 := Scalar.muli arg8 c16_i32_177
  let v406 : Index := Scalar.indexCast v405
  let c0_179 : Index := 0#32
  let c0_180 : Index := 0#32
  ![0, v406.toNat, 0, 0]
def k0_off6 (k0_t2 : Fin k0_t2_loop.trips) : Fin 3 → Nat :=
  let c0_181 : Index := 0#32
  let c15_i32_17 : BitVec 32 := 15#32
  let c1_i32_18 : BitVec 32 := 1#32
  let arg8 : BitVec 32 := Scf.iv c15_i32_17 c1_i32_18 k0_t2
  let c16_i32_177 : BitVec 32 := 16#32
  let v405 : BitVec 32 := Scalar.muli arg8 c16_i32_177
  let v409 : Index := Scalar.indexCast v405
  let c0_182 : Index := 0#32
  ![0, v409.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x512x32x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S28x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceIdeal.lean ====
abbrev S32x512x28 : Shape := ⟨3, ![32, 512, 28]⟩
abbrev S32 : Shape := ⟨1, ![32]⟩
abbrev S32x512 : Shape := ⟨2, ![32, 512]⟩
abbrev S28x28 : Shape := ⟨2, ![28, 28]⟩
abbrev S1x1x28x28 : Shape := ⟨4, ![1, 1, 28, 28]⟩
abbrev S32x512x1x28 : Shape := ⟨4, ![32, 512, 1, 28]⟩
abbrev S32x512x28x28 : Shape := ⟨4, ![32, 512, 28, 28]⟩
abbrev S32x256x28x28 : Shape := ⟨4, ![32, 256, 28, 28]⟩
abbrev S32x256x28x28x1 : Shape := ⟨5, ![32, 256, 28, 28, 1]⟩
abbrev S32x256x1x28x28 : Shape := ⟨5, ![32, 256, 1, 28, 28]⟩
abbrev S32x256x28x28x28 : Shape := ⟨5, ![32, 256, 28, 28, 28]⟩
abbrev S_ : Shape := ⟨0, ![]⟩
abbrev S32x256x28x1x28 : Shape := ⟨5, ![32, 256, 28, 1, 28]⟩
abbrev S32x128x28x28 : Shape := ⟨4, ![32, 128, 28, 28]⟩
abbrev S32x128x28x28x1 : Shape := ⟨5, ![32, 128, 28, 28, 1]⟩
abbrev S32x128x1x28x28 : Shape := ⟨5, ![32, 128, 1, 28, 28]⟩
abbrev S32x128x28x28x28 : Shape := ⟨5, ![32, 128, 28, 28, 28]⟩
abbrev S32x128x28x1x28 : Shape := ⟨5, ![32, 128, 28, 1, 28]⟩
abbrev S32x64x28x28 : Shape := ⟨4, ![32, 64, 28, 28]⟩
abbrev S32x64x28x28x1 : Shape := ⟨5, ![32, 64, 28, 28, 1]⟩
abbrev S32x64x1x28x28 : Shape := ⟨5, ![32, 64, 1, 28, 28]⟩
abbrev S32x64x28x28x28 : Shape := ⟨5, ![32, 64, 28, 28, 28]⟩
abbrev S32x64x28x1x28 : Shape := ⟨5, ![32, 64, 28, 1, 28]⟩
abbrev S32x32x28x28 : Shape := ⟨4, ![32, 32, 28, 28]⟩
abbrev S32x32x28x28x1 : Shape := ⟨5, ![32, 32, 28, 28, 1]⟩
abbrev S32x32x1x28x28 : Shape := ⟨5, ![32, 32, 1, 28, 28]⟩
abbrev S32x32x28x28x28 : Shape := ⟨5, ![32, 32, 28, 28, 28]⟩
abbrev S32x32x28x1x28 : Shape := ⟨5, ![32, 32, 28, 1, 28]⟩
abbrev S32x16x28x28 : Shape := ⟨4, ![32, 16, 28, 28]⟩
abbrev S32x16x28x28x1 : Shape := ⟨5, ![32, 16, 28, 28, 1]⟩
abbrev S32x16x1x28x28 : Shape := ⟨5, ![32, 16, 1, 28, 28]⟩
abbrev S32x16x28x28x28 : Shape := ⟨5, ![32, 16, 28, 28, 28]⟩
abbrev S32x16x28x1x28 : Shape := ⟨5, ![32, 16, 28, 1, 28]⟩
abbrev S32x8x28x28 : Shape := ⟨4, ![32, 8, 28, 28]⟩
abbrev S32x8x28x28x1 : Shape := ⟨5, ![32, 8, 28, 28, 1]⟩
abbrev S32x8x1x28x28 : Shape := ⟨5, ![32, 8, 1, 28, 28]⟩
abbrev S32x8x28x28x28 : Shape := ⟨5, ![32, 8, 28, 28, 28]⟩
abbrev S32x8x28x1x28 : Shape := ⟨5, ![32, 8, 28, 1, 28]⟩
abbrev S32x4x28x28 : Shape := ⟨4, ![32, 4, 28, 28]⟩
abbrev S32x4x28x28x1 : Shape := ⟨5, ![32, 4, 28, 28, 1]⟩
abbrev S32x4x1x28x28 : Shape := ⟨5, ![32, 4, 1, 28, 28]⟩
abbrev S32x4x28x28x28 : Shape := ⟨5, ![32, 4, 28, 28, 28]⟩
abbrev S32x4x28x1x28 : Shape := ⟨5, ![32, 4, 28, 1, 28]⟩
abbrev S32x2x28x28 : Shape := ⟨4, ![32, 2, 28, 28]⟩
abbrev S32x2x28x28x1 : Shape := ⟨5, ![32, 2, 28, 28, 1]⟩
abbrev S32x2x1x28x28 : Shape := ⟨5, ![32, 2, 1, 28, 28]⟩
abbrev S32x2x28x28x28 : Shape := ⟨5, ![32, 2, 28, 28, 28]⟩
abbrev S32x2x28x1x28 : Shape := ⟨5, ![32, 2, 28, 1, 28]⟩
abbrev S32x1x28x28 : Shape := ⟨4, ![32, 1, 28, 28]⟩
abbrev S32x1x28x28x1 : Shape := ⟨5, ![32, 1, 28, 28, 1]⟩
abbrev S32x1x1x28x28 : Shape := ⟨5, ![32, 1, 1, 28, 28]⟩
abbrev S32x1x28x28x28 : Shape := ⟨5, ![32, 1, 28, 28, 28]⟩
abbrev S32x1x28x1x28 : Shape := ⟨5, ![32, 1, 28, 1, 28]⟩
abbrev S32x0x28x28 : Shape := ⟨4, ![32, 0, 28, 28]⟩
abbrev S32x0x28x28x1 : Shape := ⟨5, ![32, 0, 28, 28, 1]⟩
abbrev S32x0x1x28x28 : Shape := ⟨5, ![32, 0, 1, 28, 28]⟩
abbrev S32x0x28x28x28 : Shape := ⟨5, ![32, 0, 28, 28, 28]⟩
abbrev S32x0x28x1x28 : Shape := ⟨5, ![32, 0, 28, 1, 28]⟩
abbrev S32x3x28x28 : Shape := ⟨4, ![32, 3, 28, 28]⟩
abbrev S32x3x28x28x1 : Shape := ⟨5, ![32, 3, 28, 28, 1]⟩
abbrev S32x3x1x28x28 : Shape := ⟨5, ![32, 3, 1, 28, 28]⟩
abbrev S32x3x28x28x28 : Shape := ⟨5, ![32, 3, 28, 28, 28]⟩
abbrev S32x3x28x1x28 : Shape := ⟨5, ![32, 3, 28, 1, 28]⟩
abbrev S32x7x28x28 : Shape := ⟨4, ![32, 7, 28, 28]⟩
abbrev S32x7x28x28x1 : Shape := ⟨5, ![32, 7, 28, 28, 1]⟩
abbrev S32x7x1x28x28 : Shape := ⟨5, ![32, 7, 1, 28, 28]⟩
abbrev S32x7x28x28x28 : Shape := ⟨5, ![32, 7, 28, 28, 28]⟩
abbrev S32x7x28x1x28 : Shape := ⟨5, ![32, 7, 28, 1, 28]⟩
abbrev S32x15x28x28 : Shape := ⟨4, ![32, 15, 28, 28]⟩
abbrev S32x15x28x28x1 : Shape := ⟨5, ![32, 15, 28, 28, 1]⟩
abbrev S32x15x1x28x28 : Shape := ⟨5, ![32, 15, 1, 28, 28]⟩
abbrev S32x15x28x28x28 : Shape := ⟨5, ![32, 15, 28, 28, 28]⟩
abbrev S32x15x28x1x28 : Shape := ⟨5, ![32, 15, 28, 1, 28]⟩
abbrev S32x31x28x28 : Shape := ⟨4, ![32, 31, 28, 28]⟩
abbrev S32x31x28x28x1 : Shape := ⟨5, ![32, 31, 28, 28, 1]⟩
abbrev S32x31x1x28x28 : Shape := ⟨5, ![32, 31, 1, 28, 28]⟩
abbrev S32x31x28x28x28 : Shape := ⟨5, ![32, 31, 28, 28, 28]⟩
abbrev S32x31x28x1x28 : Shape := ⟨5, ![32, 31, 28, 1, 28]⟩
abbrev S32x63x28x28 : Shape := ⟨4, ![32, 63, 28, 28]⟩
abbrev S32x63x28x28x1 : Shape := ⟨5, ![32, 63, 28, 28, 1]⟩
abbrev S32x63x1x28x28 : Shape := ⟨5, ![32, 63, 1, 28, 28]⟩
abbrev S32x63x28x28x28 : Shape := ⟨5, ![32, 63, 28, 28, 28]⟩
abbrev S32x63x28x1x28 : Shape := ⟨5, ![32, 63, 28, 1, 28]⟩
abbrev S32x127x28x28 : Shape := ⟨4, ![32, 127, 28, 28]⟩
abbrev S32x127x28x28x1 : Shape := ⟨5, ![32, 127, 28, 28, 1]⟩
abbrev S32x127x1x28x28 : Shape := ⟨5, ![32, 127, 1, 28, 28]⟩
abbrev S32x127x28x28x28 : Shape := ⟨5, ![32, 127, 28, 28, 28]⟩
abbrev S32x127x28x1x28 : Shape := ⟨5, ![32, 127, 28, 1, 28]⟩
abbrev S32x255x28x28 : Shape := ⟨4, ![32, 255, 28, 28]⟩
abbrev S32x255x28x28x1 : Shape := ⟨5, ![32, 255, 28, 28, 1]⟩
abbrev S32x255x1x28x28 : Shape := ⟨5, ![32, 255, 1, 28, 28]⟩
abbrev S32x255x28x28x28 : Shape := ⟨5, ![32, 255, 28, 28, 28]⟩
abbrev S32x255x28x1x28 : Shape := ⟨5, ![32, 255, 28, 1, 28]⟩
abbrev S32x1x1 : Shape := ⟨3, ![32, 1, 1]⟩
abbrev S1 : Shape := ⟨1, ![1]⟩
abbrev S1x1x1 : Shape := ⟨3, ![1, 1, 1]⟩
abbrev S32x1 : Shape := ⟨2, ![32, 1]⟩
abbrev S32x1x28 : Shape := ⟨3, ![32, 1, 28]⟩
abbrev S32x28 : Shape := ⟨2, ![32, 28]⟩
abbrev S28x1 : Shape := ⟨2, ![28, 1]⟩
abbrev S28 : Shape := ⟨1, ![28]⟩
abbrev S1x28 : Shape := ⟨2, ![1, 28]⟩
abbrev S32x512x1 : Shape := ⟨3, ![32, 512, 1]⟩
abbrev S32x512x1x1 : Shape := ⟨4, ![32, 512, 1, 1]⟩
abbrev S1x1x1x1 : Shape := ⟨4, ![1, 1, 1, 1]⟩
abbrev S32x2 : Shape := ⟨2, ![32, 2]⟩
abbrev S32x511 : Shape := ⟨2, ![32, 511]⟩
abbrev S32x511x1 : Shape := ⟨3, ![32, 511, 1]⟩
abbrev S32x511x2 : Shape := ⟨3, ![32, 511, 2]⟩
abbrev S1x1x128 : Shape := ⟨3, ![1, 1, 128]⟩

abbrev nBuf : Space → Nat
  | .hbm => 546
  | .vmem => 0
  | .smem => 0
  | _ => 0

abbrev hbmTy0_0 (i : Nat) : BufTy := match i % 128 with
  | 0 => ⟨S32x512x28, .f32⟩
  | 1 => ⟨S32, .i32⟩
  | 2 => ⟨S32x512, .i32⟩
  | 3 => ⟨S32x512, .i1⟩
  | 4 => ⟨S28x28, .f32⟩
  | 5 => ⟨S1x1x28x28, .f32⟩
  | 6 => ⟨S32x512x1x28, .f32⟩
  | 7 => ⟨S32x512x28x28, .f32⟩
  | 8 => ⟨S32x512x28x28, .f32⟩
  | 9 => ⟨S32x512x28x28, .f32⟩
  | 10 => ⟨S32x256x28x28, .f32⟩
  | 11 => ⟨S32x256x28x28, .f32⟩
  | 12 => ⟨S32x256x28x28x1, .f32⟩
  | 13 => ⟨S32x256x1x28x28, .f32⟩
  | 14 => ⟨S32x256x28x28x28, .f32⟩
  | 15 => ⟨S32x256x28x28x28, .f32⟩
  | 16 => ⟨S32x256x28x28x28, .f32⟩
  | 17 => ⟨S_, .f32⟩
  | 18 => ⟨S32x256x28x28, .f32⟩
  | 19 => ⟨S32x256x28x1x28, .f32⟩
  | 20 => ⟨S32x256x28x28x28, .f32⟩
  | 21 => ⟨S32x256x28x28x28, .f32⟩
  | 22 => ⟨S32x256x28x28x28, .f32⟩
  | 23 => ⟨S_, .f32⟩
  | 24 => ⟨S32x256x28x28, .f32⟩
  | 25 => ⟨S32x256x28x28, .f32⟩
  | 26 => ⟨S32x256x28x28, .f32⟩
  | 27 => ⟨S32x128x28x28, .f32⟩
  | 28 => ⟨S32x128x28x28, .f32⟩
  | 29 => ⟨S32x128x28x28x1, .f32⟩
  | 30 => ⟨S32x128x1x28x28, .f32⟩
  | 31 => ⟨S32x128x28x28x28, .f32⟩
  | 32 => ⟨S32x128x28x28x28, .f32⟩
  | 33 => ⟨S32x128x28x28x28, .f32⟩
  | 34 => ⟨S_, .f32⟩
  | 35 => ⟨S32x128x28x28, .f32⟩
  | 36 => ⟨S32x128x28x1x28, .f32⟩
  | 37 => ⟨S32x128x28x28x28, .f32⟩
  | 38 => ⟨S32x128x28x28x28, .f32⟩
  | 39 => ⟨S32x128x28x28x28, .f32⟩
  | 40 => ⟨S_, .f32⟩
  | 41 => ⟨S32x128x28x28, .f32⟩
  | 42 => ⟨S32x128x28x28, .f32⟩
  | 43 => ⟨S32x128x28x28, .f32⟩
  | 44 => ⟨S32x64x28x28, .f32⟩
  | 45 => ⟨S32x64x28x28, .f32⟩
  | 46 => ⟨S32x64x28x28x1, .f32⟩
  | 47 => ⟨S32x64x1x28x28, .f32⟩
  | 48 => ⟨S32x64x28x28x28, .f32⟩
  | 49 => ⟨S32x64x28x28x28, .f32⟩
  | 50 => ⟨S32x64x28x28x28, .f32⟩
  | 51 => ⟨S_, .f32⟩
  | 52 => ⟨S32x64x28x28, .f32⟩
  | 53 => ⟨S32x64x28x1x28, .f32⟩
  | 54 => ⟨S32x64x28x28x28, .f32⟩
  | 55 => ⟨S32x64x28x28x28, .f32⟩
  | 56 => ⟨S32x64x28x28x28, .f32⟩
  | 57 => ⟨S_, .f32⟩
  | 58 => ⟨S32x64x28x28, .f32⟩
  | 59 => ⟨S32x64x28x28, .f32⟩
  | 60 => ⟨S32x64x28x28, .f32⟩
  | 61 => ⟨S32x32x28x28, .f32⟩
  | 62 => ⟨S32x32x28x28, .f32⟩
  | 63 => ⟨S32x32x28x28x1, .f32⟩
  | 64 => ⟨S32x32x1x28x28, .f32⟩
  | 65 => ⟨S32x32x28x28x28, .f32⟩
  | 66 => ⟨S32x32x28x28x28, .f32⟩
  | 67 => ⟨S32x32x28x28x28, .f32⟩
  | 68 => ⟨S_, .f32⟩
  | 69 => ⟨S32x32x28x28, .f32⟩
  | 70 => ⟨S32x32x28x1x28, .f32⟩
  | 71 => ⟨S32x32x28x28x28, .f32⟩
  | 72 => ⟨S32x32x28x28x28, .f32⟩
  | 73 => ⟨S32x32x28x28x28, .f32⟩
  | 74 => ⟨S_, .f32⟩
  | 75 => ⟨S32x32x28x28, .f32⟩
  | 76 => ⟨S32x32x28x28, .f32⟩
  | 77 => ⟨S32x32x28x28, .f32⟩
  | 78 => ⟨S32x16x28x28, .f32⟩
  | 79 => ⟨S32x16x28x28, .f32⟩
  | 80 => ⟨S32x16x28x28x1, .f32⟩
  | 81 => ⟨S32x16x1x28x28, .f32⟩
  | 82 => ⟨S32x16x28x28x28, .f32⟩
  | 83 => ⟨S32x16x28x28x28, .f32⟩
  | 84 => ⟨S32x16x28x28x28, .f32⟩
  | 85 => ⟨S_, .f32⟩
  | 86 => ⟨S32x16x28x28, .f32⟩
  | 87 => ⟨S32x16x28x1x28, .f32⟩
  | 88 => ⟨S32x16x28x28x28, .f32⟩
  | 89 => ⟨S32x16x28x28x28, .f32⟩
  | 90 => ⟨S32x16x28x28x28, .f32⟩
  | 91 => ⟨S_, .f32⟩
  | 92 => ⟨S32x16x28x28, .f32⟩
  | 93 => ⟨S32x16x28x28, .f32⟩
  | 94 => ⟨S32x16x28x28, .f32⟩
  | 95 => ⟨S32x8x28x28, .f32⟩
  | 96 => ⟨S32x8x28x28, .f32⟩
  | 97 => ⟨S32x8x28x28x1, .f32⟩
  | 98 => ⟨S32x8x1x28x28, .f32⟩
  | 99 => ⟨S32x8x28x28x28, .f32⟩
  | 100 => ⟨S32x8x28x28x28, .f32⟩
  | 101 => ⟨S32x8x28x28x28, .f32⟩
  | 102 => ⟨S_, .f32⟩
  | 103 => ⟨S32x8x28x28, .f32⟩
  | 104 => ⟨S32x8x28x1x28, .f32⟩
  | 105 => ⟨S32x8x28x28x28, .f32⟩
  | 106 => ⟨S32x8x28x28x28, .f32⟩
  | 107 => ⟨S32x8x28x28x28, .f32⟩
  | 108 => ⟨S_, .f32⟩
  | 109 => ⟨S32x8x28x28, .f32⟩
  | 110 => ⟨S32x8x28x28, .f32⟩
  | 111 => ⟨S32x8x28x28, .f32⟩
  | 112 => ⟨S32x4x28x28, .f32⟩
  | 113 => ⟨S32x4x28x28, .f32⟩
  | 114 => ⟨S32x4x28x28x1, .f32⟩
  | 115 => ⟨S32x4x1x28x28, .f32⟩
  | 116 => ⟨S32x4x28x28x28, .f32⟩
  | 117 => ⟨S32x4x28x28x28, .f32⟩
  | 118 => ⟨S32x4x28x28x28, .f32⟩
  | 119 => ⟨S_, .f32⟩
  | 120 => ⟨S32x4x28x28, .f32⟩
  | 121 => ⟨S32x4x28x1x28, .f32⟩
  | 122 => ⟨S32x4x28x28x28, .f32⟩
  | 123 => ⟨S32x4x28x28x28, .f32⟩
  | 124 => ⟨S32x4x28x28x28, .f32⟩
  | 125 => ⟨S_, .f32⟩
  | 126 => ⟨S32x4x28x28, .f32⟩
  | 127 => ⟨S32x4x28x28, .f32⟩
  | _ => ⟨S32x512x28, .f32⟩

abbrev hbmTy0_1 (i : Nat) : BufTy := match i % 128 with
  | 0 => ⟨S32x4x28x28, .f32⟩
  | 1 => ⟨S32x2x28x28, .f32⟩
  | 2 => ⟨S32x2x28x28, .f32⟩
  | 3 => ⟨S32x2x28x28x1, .f32⟩
  | 4 => ⟨S32x2x1x28x28, .f32⟩
  | 5 => ⟨S32x2x28x28x28, .f32⟩
  | 6 => ⟨S32x2x28x28x28, .f32⟩
  | 7 => ⟨S32x2x28x28x28, .f32⟩
  | 8 => ⟨S_, .f32⟩
  | 9 => ⟨S32x2x28x28, .f32⟩
  | 10 => ⟨S32x2x28x1x28, .f32⟩
  | 11 => ⟨S32x2x28x28x28, .f32⟩
  | 12 => ⟨S32x2x28x28x28, .f32⟩
  | 13 => ⟨S32x2x28x28x28, .f32⟩
  | 14 => ⟨S_, .f32⟩
  | 15 => ⟨S32x2x28x28, .f32⟩
  | 16 => ⟨S32x2x28x28, .f32⟩
  | 17 => ⟨S32x2x28x28, .f32⟩
  | 18 => ⟨S32x1x28x28, .f32⟩
  | 19 => ⟨S32x1x28x28, .f32⟩
  | 20 => ⟨S32x1x28x28x1, .f32⟩
  | 21 => ⟨S32x1x1x28x28, .f32⟩
  | 22 => ⟨S32x1x28x28x28, .f32⟩
  | 23 => ⟨S32x1x28x28x28, .f32⟩
  | 24 => ⟨S32x1x28x28x28, .f32⟩
  | 25 => ⟨S_, .f32⟩
  | 26 => ⟨S32x1x28x28, .f32⟩
  | 27 => ⟨S32x1x28x1x28, .f32⟩
  | 28 => ⟨S32x1x28x28x28, .f32⟩
  | 29 => ⟨S32x1x28x28x28, .f32⟩
  | 30 => ⟨S32x1x28x28x28, .f32⟩
  | 31 => ⟨S_, .f32⟩
  | 32 => ⟨S32x1x28x28, .f32⟩
  | 33 => ⟨S32x1x28x28, .f32⟩
  | 34 => ⟨S32x1x28x28, .f32⟩
  | 35 => ⟨S32x0x28x28, .f32⟩
  | 36 => ⟨S32x0x28x28, .f32⟩
  | 37 => ⟨S32x0x28x28x1, .f32⟩
  | 38 => ⟨S32x0x1x28x28, .f32⟩
  | 39 => ⟨S32x0x28x28x28, .f32⟩
  | 40 => ⟨S32x0x28x28x28, .f32⟩
  | 41 => ⟨S32x0x28x28x28, .f32⟩
  | 42 => ⟨S_, .f32⟩
  | 43 => ⟨S32x0x28x28, .f32⟩
  | 44 => ⟨S32x0x28x1x28, .f32⟩
  | 45 => ⟨S32x0x28x28x28, .f32⟩
  | 46 => ⟨S32x0x28x28x28, .f32⟩
  | 47 => ⟨S32x0x28x28x28, .f32⟩
  | 48 => ⟨S_, .f32⟩
  | 49 => ⟨S32x0x28x28, .f32⟩
  | 50 => ⟨S32x0x28x28, .f32⟩
  | 51 => ⟨S32x0x28x28, .f32⟩
  | 52 => ⟨S32x1x28x28, .f32⟩
  | 53 => ⟨S32x1x28x28, .f32⟩
  | 54 => ⟨S_, .f32⟩
  | 55 => ⟨S32x2x28x28, .f32⟩
  | 56 => ⟨S_, .f32⟩
  | 57 => ⟨S32x2x28x28, .f32⟩
  | 58 => ⟨S32x2x28x28, .f32⟩
  | 59 => ⟨S32x1x28x28, .f32⟩
  | 60 => ⟨S32x1x28x28, .f32⟩
  | 61 => ⟨S32x1x28x28x1, .f32⟩
  | 62 => ⟨S32x1x1x28x28, .f32⟩
  | 63 => ⟨S32x1x28x28x28, .f32⟩
  | 64 => ⟨S32x1x28x28x28, .f32⟩
  | 65 => ⟨S32x1x28x28x28, .f32⟩
  | 66 => ⟨S_, .f32⟩
  | 67 => ⟨S32x1x28x28, .f32⟩
  | 68 => ⟨S32x1x28x1x28, .f32⟩
  | 69 => ⟨S32x1x28x28x28, .f32⟩
  | 70 => ⟨S32x1x28x28x28, .f32⟩
  | 71 => ⟨S32x1x28x28x28, .f32⟩
  | 72 => ⟨S_, .f32⟩
  | 73 => ⟨S32x1x28x28, .f32⟩
  | 74 => ⟨S32x1x28x28, .f32⟩
  | 75 => ⟨S32x1x28x28, .f32⟩
  | 76 => ⟨S32x1x28x28, .f32⟩
  | 77 => ⟨S32x2x28x28, .f32⟩
  | 78 => ⟨S_, .f32⟩
  | 79 => ⟨S32x4x28x28, .f32⟩
  | 80 => ⟨S_, .f32⟩
  | 81 => ⟨S32x4x28x28, .f32⟩
  | 82 => ⟨S32x4x28x28, .f32⟩
  | 83 => ⟨S32x3x28x28, .f32⟩
  | 84 => ⟨S32x3x28x28, .f32⟩
  | 85 => ⟨S32x3x28x28x1, .f32⟩
  | 86 => ⟨S32x3x1x28x28, .f32⟩
  | 87 => ⟨S32x3x28x28x28, .f32⟩
  | 88 => ⟨S32x3x28x28x28, .f32⟩
  | 89 => ⟨S32x3x28x28x28, .f32⟩
  | 90 => ⟨S_, .f32⟩
  | 91 => ⟨S32x3x28x28, .f32⟩
  | 92 => ⟨S32x3x28x1x28, .f32⟩
  | 93 => ⟨S32x3x28x28x28, .f32⟩
  | 94 => ⟨S32x3x28x28x28, .f32⟩
  | 95 => ⟨S32x3x28x28x28, .f32⟩
  | 96 => ⟨S_, .f32⟩
  | 97 => ⟨S32x3x28x28, .f32⟩
  | 98 => ⟨S32x3x28x28, .f32⟩
  | 99 => ⟨S32x3x28x28, .f32⟩
  | 100 => ⟨S32x1x28x28, .f32⟩
  | 101 => ⟨S32x4x28x28, .f32⟩
  | 102 => ⟨S_, .f32⟩
  | 103 => ⟨S32x8x28x28, .f32⟩
  | 104 => ⟨S_, .f32⟩
  | 105 => ⟨S32x8x28x28, .f32⟩
  | 106 => ⟨S32x8x28x28, .f32⟩
  | 107 => ⟨S32x7x28x28, .f32⟩
  | 108 => ⟨S32x7x28x28, .f32⟩
  | 109 => ⟨S32x7x28x28x1, .f32⟩
  | 110 => ⟨S32x7x1x28x28, .f32⟩
  | 111 => ⟨S32x7x28x28x28, .f32⟩
  | 112 => ⟨S32x7x28x28x28, .f32⟩
  | 113 => ⟨S32x7x28x28x28, .f32⟩
  | 114 => ⟨S_, .f32⟩
  | 115 => ⟨S32x7x28x28, .f32⟩
  | 116 => ⟨S32x7x28x1x28, .f32⟩
  | 117 => ⟨S32x7x28x28x28, .f32⟩
  | 118 => ⟨S32x7x28x28x28, .f32⟩
  | 119 => ⟨S32x7x28x28x28, .f32⟩
  | 120 => ⟨S_, .f32⟩
  | 121 => ⟨S32x7x28x28, .f32⟩
  | 122 => ⟨S32x7x28x28, .f32⟩
  | 123 => ⟨S32x7x28x28, .f32⟩
  | 124 => ⟨S32x1x28x28, .f32⟩
  | 125 => ⟨S32x8x28x28, .f32⟩
  | 126 => ⟨S_, .f32⟩
  | 127 => ⟨S32x16x28x28, .f32⟩
  | _ => ⟨S32x512x28, .f32⟩

abbrev hbmTy0_2 (i : Nat) : BufTy := match i % 128 with
  | 0 => ⟨S_, .f32⟩
  | 1 => ⟨S32x16x28x28, .f32⟩
  | 2 => ⟨S32x16x28x28, .f32⟩
  | 3 => ⟨S32x15x28x28, .f32⟩
  | 4 => ⟨S32x15x28x28, .f32⟩
  | 5 => ⟨S32x15x28x28x1, .f32⟩
  | 6 => ⟨S32x15x1x28x28, .f32⟩
  | 7 => ⟨S32x15x28x28x28, .f32⟩
  | 8 => ⟨S32x15x28x28x28, .f32⟩
  | 9 => ⟨S32x15x28x28x28, .f32⟩
  | 10 => ⟨S_, .f32⟩
  | 11 => ⟨S32x15x28x28, .f32⟩
  | 12 => ⟨S32x15x28x1x28, .f32⟩
  | 13 => ⟨S32x15x28x28x28, .f32⟩
  | 14 => ⟨S32x15x28x28x28, .f32⟩
  | 15 => ⟨S32x15x28x28x28, .f32⟩
  | 16 => ⟨S_, .f32⟩
  | 17 => ⟨S32x15x28x28, .f32⟩
  | 18 => ⟨S32x15x28x28, .f32⟩
  | 19 => ⟨S32x15x28x28, .f32⟩
  | 20 => ⟨S32x1x28x28, .f32⟩
  | 21 => ⟨S32x16x28x28, .f32⟩
  | 22 => ⟨S_, .f32⟩
  | 23 => ⟨S32x32x28x28, .f32⟩
  | 24 => ⟨S_, .f32⟩
  | 25 => ⟨S32x32x28x28, .f32⟩
  | 26 => ⟨S32x32x28x28, .f32⟩
  | 27 => ⟨S32x31x28x28, .f32⟩
  | 28 => ⟨S32x31x28x28, .f32⟩
  | 29 => ⟨S32x31x28x28x1, .f32⟩
  | 30 => ⟨S32x31x1x28x28, .f32⟩
  | 31 => ⟨S32x31x28x28x28, .f32⟩
  | 32 => ⟨S32x31x28x28x28, .f32⟩
  | 33 => ⟨S32x31x28x28x28, .f32⟩
  | 34 => ⟨S_, .f32⟩
  | 35 => ⟨S32x31x28x28, .f32⟩
  | 36 => ⟨S32x31x28x1x28, .f32⟩
  | 37 => ⟨S32x31x28x28x28, .f32⟩
  | 38 => ⟨S32x31x28x28x28, .f32⟩
  | 39 => ⟨S32x31x28x28x28, .f32⟩
  | 40 => ⟨S_, .f32⟩
  | 41 => ⟨S32x31x28x28, .f32⟩
  | 42 => ⟨S32x31x28x28, .f32⟩
  | 43 => ⟨S32x31x28x28, .f32⟩
  | 44 => ⟨S32x1x28x28, .f32⟩
  | 45 => ⟨S32x32x28x28, .f32⟩
  | 46 => ⟨S_, .f32⟩
  | 47 => ⟨S32x64x28x28, .f32⟩
  | 48 => ⟨S_, .f32⟩
  | 49 => ⟨S32x64x28x28, .f32⟩
  | 50 => ⟨S32x64x28x28, .f32⟩
  | 51 => ⟨S32x63x28x28, .f32⟩
  | 52 => ⟨S32x63x28x28, .f32⟩
  | 53 => ⟨S32x63x28x28x1, .f32⟩
  | 54 => ⟨S32x63x1x28x28, .f32⟩
  | 55 => ⟨S32x63x28x28x28, .f32⟩
  | 56 => ⟨S32x63x28x28x28, .f32⟩
  | 57 => ⟨S32x63x28x28x28, .f32⟩
  | 58 => ⟨S_, .f32⟩
  | 59 => ⟨S32x63x28x28, .f32⟩
  | 60 => ⟨S32x63x28x1x28, .f32⟩
  | 61 => ⟨S32x63x28x28x28, .f32⟩
  | 62 => ⟨S32x63x28x28x28, .f32⟩
  | 63 => ⟨S32x63x28x28x28, .f32⟩
  | 64 => ⟨S_, .f32⟩
  | 65 => ⟨S32x63x28x28, .f32⟩
  | 66 => ⟨S32x63x28x28, .f32⟩
  | 67 => ⟨S32x63x28x28, .f32⟩
  | 68 => ⟨S32x1x28x28, .f32⟩
  | 69 => ⟨S32x64x28x28, .f32⟩
  | 70 => ⟨S_, .f32⟩
  | 71 => ⟨S32x128x28x28, .f32⟩
  | 72 => ⟨S_, .f32⟩
  | 73 => ⟨S32x128x28x28, .f32⟩
  | 74 => ⟨S32x128x28x28, .f32⟩
  | 75 => ⟨S32x127x28x28, .f32⟩
  | 76 => ⟨S32x127x28x28, .f32⟩
  | 77 => ⟨S32x127x28x28x1, .f32⟩
  | 78 => ⟨S32x127x1x28x28, .f32⟩
  | 79 => ⟨S32x127x28x28x28, .f32⟩
  | 80 => ⟨S32x127x28x28x28, .f32⟩
  | 81 => ⟨S32x127x28x28x28, .f32⟩
  | 82 => ⟨S_, .f32⟩
  | 83 => ⟨S32x127x28x28, .f32⟩
  | 84 => ⟨S32x127x28x1x28, .f32⟩
  | 85 => ⟨S32x127x28x28x28, .f32⟩
  | 86 => ⟨S32x127x28x28x28, .f32⟩
  | 87 => ⟨S32x127x28x28x28, .f32⟩
  | 88 => ⟨S_, .f32⟩
  | 89 => ⟨S32x127x28x28, .f32⟩
  | 90 => ⟨S32x127x28x28, .f32⟩
  | 91 => ⟨S32x127x28x28, .f32⟩
  | 92 => ⟨S32x1x28x28, .f32⟩
  | 93 => ⟨S32x128x28x28, .f32⟩
  | 94 => ⟨S_, .f32⟩
  | 95 => ⟨S32x256x28x28, .f32⟩
  | 96 => ⟨S_, .f32⟩
  | 97 => ⟨S32x256x28x28, .f32⟩
  | 98 => ⟨S32x256x28x28, .f32⟩
  | 99 => ⟨S32x255x28x28, .f32⟩
  | 100 => ⟨S32x255x28x28, .f32⟩
  | 101 => ⟨S32x255x28x28x1, .f32⟩
  | 102 => ⟨S32x255x1x28x28, .f32⟩
  | 103 => ⟨S32x255x28x28x28, .f32⟩
  | 104 => ⟨S32x255x28x28x28, .f32⟩
  | 105 => ⟨S32x255x28x28x28, .f32⟩
  | 106 => ⟨S_, .f32⟩
  | 107 => ⟨S32x255x28x28, .f32⟩
  | 108 => ⟨S32x255x28x1x28, .f32⟩
  | 109 => ⟨S32x255x28x28x28, .f32⟩
  | 110 => ⟨S32x255x28x28x28, .f32⟩
  | 111 => ⟨S32x255x28x28x28, .f32⟩
  | 112 => ⟨S_, .f32⟩
  | 113 => ⟨S32x255x28x28, .f32⟩
  | 114 => ⟨S32x255x28x28, .f32⟩
  | 115 => ⟨S32x255x28x28, .f32⟩
  | 116 => ⟨S32x1x28x28, .f32⟩
  | 117 => ⟨S32x256x28x28, .f32⟩
  | 118 => ⟨S_, .f32⟩
  | 119 => ⟨S32x512x28x28, .f32⟩
  | 120 => ⟨S_, .f32⟩
  | 121 => ⟨S32x512x28x28, .f32⟩
  | 122 => ⟨S32x512x28x28, .f32⟩
  | 123 => ⟨S32x512x1x28, .f32⟩
  | 124 => ⟨S32x512x28, .f32⟩
  | 125 => ⟨S_, .i32⟩
  | 126 => ⟨S32, .i32⟩
  | 127 => ⟨S32, .i32⟩
  | _ => ⟨S32x512x28, .f32⟩

abbrev hbmTy0_3 (i : Nat) : BufTy := match i % 128 with
  | 0 => ⟨S32x1x1, .i32⟩
  | 1 => ⟨S_, .i32⟩
  | 2 => ⟨S32x1x1, .i32⟩
  | 3 => ⟨S32x1x1, .i1⟩
  | 4 => ⟨S_, .i32⟩
  | 5 => ⟨S32x1x1, .i32⟩
  | 6 => ⟨S32x1x1, .i32⟩
  | 7 => ⟨S32x1x1, .i32⟩
  | 8 => ⟨S1, .i32⟩
  | 9 => ⟨S_, .i32⟩
  | 10 => ⟨S32x1x1, .i32⟩
  | 11 => ⟨S32x1x1, .i1⟩
  | 12 => ⟨S1x1x1, .i32⟩
  | 13 => ⟨S32x1x1, .i32⟩
  | 14 => ⟨S32x1x1, .i1⟩
  | 15 => ⟨S32x1x1, .i1⟩
  | 16 => ⟨S_, .i1⟩
  | 17 => ⟨S32x1, .i1⟩
  | 18 => ⟨S32x1x28, .f32⟩
  | 19 => ⟨S32x1x28, .i1⟩
  | 20 => ⟨S_, .f32⟩
  | 21 => ⟨S32x1x28, .f32⟩
  | 22 => ⟨S32x1x28, .f32⟩
  | 23 => ⟨S32x28, .f32⟩
  | 24 => ⟨S28x1, .f32⟩
  | 25 => ⟨S28, .f32⟩
  | 26 => ⟨S1x28, .f32⟩
  | 27 => ⟨S32x28, .f32⟩
  | 28 => ⟨S32x28, .f32⟩
  | 29 => ⟨S_, .f32⟩
  | 30 => ⟨S32, .f32⟩
  | 31 => ⟨S32x1, .f32⟩
  | 32 => ⟨S32x28, .f32⟩
  | 33 => ⟨S32x28, .f32⟩
  | 34 => ⟨S32x28, .f32⟩
  | 35 => ⟨S_, .f32⟩
  | 36 => ⟨S32, .f32⟩
  | 37 => ⟨S32, .f32⟩
  | 38 => ⟨S32, .f32⟩
  | 39 => ⟨S_, .f32⟩
  | 40 => ⟨S_, .f32⟩
  | 41 => ⟨S32x512x1, .i32⟩
  | 42 => ⟨S_, .i32⟩
  | 43 => ⟨S32x512x1, .i32⟩
  | 44 => ⟨S32x512x1, .i1⟩
  | 45 => ⟨S_, .i32⟩
  | 46 => ⟨S32x512x1, .i32⟩
  | 47 => ⟨S32x512x1, .i32⟩
  | 48 => ⟨S32x512x1, .i32⟩
  | 49 => ⟨S32x512x1x1, .i32⟩
  | 50 => ⟨S1, .i32⟩
  | 51 => ⟨S_, .i32⟩
  | 52 => ⟨S32x512x1x1, .i32⟩
  | 53 => ⟨S32x512x1x1, .i1⟩
  | 54 => ⟨S1x1x1x1, .i32⟩
  | 55 => ⟨S32x512x1x1, .i32⟩
  | 56 => ⟨S32x512x1x1, .i1⟩
  | 57 => ⟨S32x512x1x1, .i1⟩
  | 58 => ⟨S_, .i1⟩
  | 59 => ⟨S32x512x1, .i1⟩
  | 60 => ⟨S32x512x1, .f32⟩
  | 61 => ⟨S_, .f32⟩
  | 62 => ⟨S32x512x1, .f32⟩
  | 63 => ⟨S32x512x1, .f32⟩
  | 64 => ⟨S32x512, .f32⟩
  | 65 => ⟨S32x1, .i32⟩
  | 66 => ⟨S32, .i32⟩
  | 67 => ⟨S_, .i32⟩
  | 68 => ⟨S32, .i32⟩
  | 69 => ⟨S32, .i1⟩
  | 70 => ⟨S_, .i32⟩
  | 71 => ⟨S32, .i32⟩
  | 72 => ⟨S32, .i32⟩
  | 73 => ⟨S32, .i32⟩
  | 74 => ⟨S_, .i32⟩
  | 75 => ⟨S32, .i32⟩
  | 76 => ⟨S32, .i32⟩
  | 77 => ⟨S32x1, .i32⟩
  | 78 => ⟨S32x1, .i32⟩
  | 79 => ⟨S32x2, .i32⟩
  | 80 => ⟨S32, .f32⟩
  | 81 => ⟨S32x1, .f32⟩
  | 82 => ⟨S32, .f32⟩
  | 83 => ⟨S32, .f32⟩
  | 84 => ⟨S32x511, .i32⟩
  | 85 => ⟨S32x511, .i32⟩
  | 86 => ⟨S_, .i32⟩
  | 87 => ⟨S32x511, .i32⟩
  | 88 => ⟨S32x511, .i1⟩
  | 89 => ⟨S_, .i32⟩
  | 90 => ⟨S32x511, .i32⟩
  | 91 => ⟨S32x511, .i32⟩
  | 92 => ⟨S32x511, .i32⟩
  | 93 => ⟨S_, .i32⟩
  | 94 => ⟨S32x511, .i32⟩
  | 95 => ⟨S32x511, .i1⟩
  | 96 => ⟨S_, .i32⟩
  | 97 => ⟨S32x511, .i32⟩
  | 98 => ⟨S32x511, .i32⟩
  | 99 => ⟨S32x511, .i32⟩
  | 100 => ⟨S32x511x1, .i32⟩
  | 101 => ⟨S32x511x1, .i32⟩
  | 102 => ⟨S32x511x2, .i32⟩
  | 103 => ⟨S32x511, .f32⟩
  | 104 => ⟨S32x511, .f32⟩
  | 105 => ⟨S32x511, .f32⟩
  | 106 => ⟨S32x511, .i1⟩
  | 107 => ⟨S_, .f32⟩
  | 108 => ⟨S_, .f32⟩
  | 109 => ⟨S32x511, .f32⟩
  | 110 => ⟨S32x511, .f32⟩
  | 111 => ⟨S_, .f32⟩
  | 112 => ⟨S_, .f32⟩
  | 113 => ⟨S_, .i32⟩
  | 114 => ⟨S32, .i32⟩
  | 115 => ⟨S32, .i32⟩
  | 116 => ⟨S32x1, .i32⟩
  | 117 => ⟨S_, .i32⟩
  | 118 => ⟨S32x1, .i32⟩
  | 119 => ⟨S32x1, .i1⟩
  | 120 => ⟨S_, .i32⟩
  | 121 => ⟨S32x1, .i32⟩
  | 122 => ⟨S32x1, .i32⟩
  | 123 => ⟨S32x1, .i32⟩
  | 124 => ⟨S32x1x1, .i32⟩
  | 125 => ⟨S1, .i32⟩
  | 126 => ⟨S_, .i32⟩
  | 127 => ⟨S32x1x1, .i32⟩
  | _ => ⟨S32x512x28, .f32⟩

abbrev hbmTy0_4 (i : Nat) : BufTy := match i % 128 with
  | 0 => ⟨S32x1x1, .i1⟩
  | 1 => ⟨S1x1x1, .i32⟩
  | 2 => ⟨S32x1x1, .i32⟩
  | 3 => ⟨S32x1x1, .i1⟩
  | 4 => ⟨S32x1x1, .i1⟩
  | 5 => ⟨S_, .i1⟩
  | 6 => ⟨S32x1, .i1⟩
  | 7 => ⟨S32x1, .i32⟩
  | 8 => ⟨S_, .i32⟩
  | 9 => ⟨S32x1, .i32⟩
  | 10 => ⟨S32x1, .i32⟩
  | 11 => ⟨S32, .i32⟩
  | 12 => ⟨S_, .i32⟩
  | 13 => ⟨S32, .i32⟩
  | 14 => ⟨S32, .i1⟩
  | 15 => ⟨S_, .i32⟩
  | 16 => ⟨S32, .i32⟩
  | 17 => ⟨S32, .i32⟩
  | 18 => ⟨S32, .i32⟩
  | 19 => ⟨S_, .i32⟩
  | 20 => ⟨S32, .i32⟩
  | 21 => ⟨S32, .i32⟩
  | 22 => ⟨S32x1, .i32⟩
  | 23 => ⟨S32x1, .i32⟩
  | 24 => ⟨S32x2, .i32⟩
  | 25 => ⟨S32, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S1x1x128, .f32⟩
  | 33 => ⟨S1x1x128, .f32⟩
  | _ => ⟨S32x512x28, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x512x28, .f32⟩

abbrev bufTy : (tb : Table) → Fin (tcTables nBuf tb) → BufTy
  | .hbm, ⟨i, _⟩ => hbmTy i
  | _, _ => ⟨S32x512x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_7 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_9 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_10 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_11 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_12 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_cst_13 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_14 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_15 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_cst_16 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_cst_17 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_cst_18 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_cst_19 : Ref sig .tc := ⟨.hbm, 182, rfl⟩
abbrev main_v157 : Ref sig .tc := ⟨.hbm, 183, rfl⟩
abbrev main_cst_20 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_cst_21 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_cst_22 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_cst_23 : Ref sig .tc := ⟨.hbm, 206, rfl⟩
abbrev main_v177 : Ref sig .tc := ⟨.hbm, 207, rfl⟩
abbrev main_cst_24 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_cst_25 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_cst_26 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_cst_27 : Ref sig .tc := ⟨.hbm, 230, rfl⟩
abbrev main_v197 : Ref sig .tc := ⟨.hbm, 231, rfl⟩
abbrev main_cst_28 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_cst_29 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_cst_30 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_cst_31 : Ref sig .tc := ⟨.hbm, 254, rfl⟩
abbrev main_v217 : Ref sig .tc := ⟨.hbm, 255, rfl⟩
abbrev main_cst_32 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_cst_33 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_cst_34 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_cst_35 : Ref sig .tc := ⟨.hbm, 278, rfl⟩
abbrev main_v237 : Ref sig .tc := ⟨.hbm, 279, rfl⟩
abbrev main_cst_36 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_cst_37 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_cst_38 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_cst_39 : Ref sig .tc := ⟨.hbm, 302, rfl⟩
abbrev main_v257 : Ref sig .tc := ⟨.hbm, 303, rfl⟩
abbrev main_cst_40 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_cst_41 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_cst_42 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_cst_43 : Ref sig .tc := ⟨.hbm, 326, rfl⟩
abbrev main_v277 : Ref sig .tc := ⟨.hbm, 327, rfl⟩
abbrev main_cst_44 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_cst_45 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_cst_46 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_cst_47 : Ref sig .tc := ⟨.hbm, 350, rfl⟩
abbrev main_v297 : Ref sig .tc := ⟨.hbm, 351, rfl⟩
abbrev main_cst_48 : Ref sig .tc := ⟨.hbm, 352, rfl⟩
abbrev main_v298 : Ref sig .tc := ⟨.hbm, 353, rfl⟩
abbrev main_v299 : Ref sig .tc := ⟨.hbm, 354, rfl⟩
abbrev main_v300 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_cst_49 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_cst_50 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_cst_51 : Ref sig .tc := ⟨.hbm, 374, rfl⟩
abbrev main_v317 : Ref sig .tc := ⟨.hbm, 375, rfl⟩
abbrev main_cst_52 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_c : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_call0_c : Ref sig .tc := ⟨.hbm, 385, rfl⟩
abbrev main_call0_v0 : Ref sig .tc := ⟨.hbm, 386, rfl⟩
abbrev main_call0_v1 : Ref sig .tc := ⟨.hbm, 387, rfl⟩
abbrev main_call0_c_0 : Ref sig .tc := ⟨.hbm, 388, rfl⟩
abbrev main_call0_v2 : Ref sig .tc := ⟨.hbm, 389, rfl⟩
abbrev main_call0_v3 : Ref sig .tc := ⟨.hbm, 390, rfl⟩
abbrev main_call0_v4 : Ref sig .tc := ⟨.hbm, 391, rfl⟩
abbrev main_call0_c_1 : Ref sig .tc := ⟨.hbm, 392, rfl⟩
abbrev main_call0_c_2 : Ref sig .tc := ⟨.hbm, 393, rfl⟩
abbrev main_call0_v5 : Ref sig .tc := ⟨.hbm, 394, rfl⟩
abbrev main_call0_v6 : Ref sig .tc := ⟨.hbm, 395, rfl⟩
abbrev main_call0_v7 : Ref sig .tc := ⟨.hbm, 396, rfl⟩
abbrev main_call0_v8 : Ref sig .tc := ⟨.hbm, 397, rfl⟩
abbrev main_call0_v9 : Ref sig .tc := ⟨.hbm, 398, rfl⟩
abbrev main_call0_v10 : Ref sig .tc := ⟨.hbm, 399, rfl⟩
abbrev main_call0_c_3 : Ref sig .tc := ⟨.hbm, 400, rfl⟩
abbrev main_call0_v11 : Ref sig .tc := ⟨.hbm, 401, rfl⟩
abbrev main_call0_v12 : Ref sig .tc := ⟨.hbm, 402, rfl⟩
abbrev main_call0_v13 : Ref sig .tc := ⟨.hbm, 403, rfl⟩
abbrev main_call0_cst : Ref sig .tc := ⟨.hbm, 404, rfl⟩
abbrev main_call0_v14 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_cst_53 : Ref sig .tc := ⟨.hbm, 413, rfl⟩
abbrev main_v332 : Ref sig .tc := ⟨.hbm, 414, rfl⟩
abbrev main_v333 : Ref sig .tc := ⟨.hbm, 415, rfl⟩
abbrev main_v334 : Ref sig .tc := ⟨.hbm, 416, rfl⟩
abbrev main_v335 : Ref sig .tc := ⟨.hbm, 417, rfl⟩
abbrev main_v336 : Ref sig .tc := ⟨.hbm, 418, rfl⟩
abbrev main_cst_54 : Ref sig .tc := ⟨.hbm, 419, rfl⟩
abbrev main_v337 : Ref sig .tc := ⟨.hbm, 420, rfl⟩
abbrev main_v338 : Ref sig .tc := ⟨.hbm, 421, rfl⟩
abbrev main_v339 : Ref sig .tc := ⟨.hbm, 422, rfl⟩
abbrev main_cst_55 : Ref sig .tc := ⟨.hbm, 423, rfl⟩
abbrev main_v340 : Ref sig .tc := ⟨.hbm, 424, rfl⟩
abbrev main_v341 : Ref sig .tc := ⟨.hbm, 425, rfl⟩
abbrev main_call1_c : Ref sig .tc := ⟨.hbm, 426, rfl⟩
abbrev main_call1_v0 : Ref sig .tc := ⟨.hbm, 427, rfl⟩
abbrev main_call1_v1 : Ref sig .tc := ⟨.hbm, 428, rfl⟩
abbrev main_call1_c_0 : Ref sig .tc := ⟨.hbm, 429, rfl⟩
abbrev main_call1_v2 : Ref sig .tc := ⟨.hbm, 430, rfl⟩
abbrev main_call1_v3 : Ref sig .tc := ⟨.hbm, 431, rfl⟩
abbrev main_call1_v4 : Ref sig .tc := ⟨.hbm, 432, rfl⟩
abbrev main_call1_v5 : Ref sig .tc := ⟨.hbm, 433, rfl⟩
abbrev main_call1_c_1 : Ref sig .tc := ⟨.hbm, 434, rfl⟩
abbrev main_call1_c_2 : Ref sig .tc := ⟨.hbm, 435, rfl⟩
abbrev main_call1_v6 : Ref sig .tc := ⟨.hbm, 436, rfl⟩
abbrev main_call1_v7 : Ref sig .tc := ⟨.hbm, 437, rfl⟩
abbrev main_call1_v8 : Ref sig .tc := ⟨.hbm, 438, rfl⟩
abbrev main_call1_v9 : Ref sig .tc := ⟨.hbm, 439, rfl⟩
abbrev main_call1_v10 : Ref sig .tc := ⟨.hbm, 440, rfl⟩
abbrev main_call1_v11 : Ref sig .tc := ⟨.hbm, 441, rfl⟩
abbrev main_call1_c_3 : Ref sig .tc := ⟨.hbm, 442, rfl⟩
abbrev main_call1_v12 : Ref sig .tc := ⟨.hbm, 443, rfl⟩
abbrev main_call1_v13 : Ref sig .tc := ⟨.hbm, 444, rfl⟩
abbrev main_call1_cst : Ref sig .tc := ⟨.hbm, 445, rfl⟩
abbrev main_call1_v14 : Ref sig .tc := ⟨.hbm, 446, rfl⟩
abbrev main_v342 : Ref sig .tc := ⟨.hbm, 447, rfl⟩
abbrev main_v343 : Ref sig .tc := ⟨.hbm, 448, rfl⟩
abbrev main_v344 : Ref sig .tc := ⟨.hbm, 449, rfl⟩
abbrev main_v345 : Ref sig .tc := ⟨.hbm, 450, rfl⟩
abbrev main_c_56 : Ref sig .tc := ⟨.hbm, 451, rfl⟩
abbrev main_v346 : Ref sig .tc := ⟨.hbm, 452, rfl⟩
abbrev main_v347 : Ref sig .tc := ⟨.hbm, 453, rfl⟩
abbrev main_c_57 : Ref sig .tc := ⟨.hbm, 454, rfl⟩
abbrev main_v348 : Ref sig .tc := ⟨.hbm, 455, rfl⟩
abbrev main_v349 : Ref sig .tc := ⟨.hbm, 456, rfl⟩
abbrev main_v350 : Ref sig .tc := ⟨.hbm, 457, rfl⟩
abbrev main_c_58 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_v355 : Ref sig .tc := ⟨.hbm, 463, rfl⟩
abbrev main_v356 : Ref sig .tc := ⟨.hbm, 464, rfl⟩
abbrev main_v357 : Ref sig .tc := ⟨.hbm, 465, rfl⟩
abbrev main_v358 : Ref sig .tc := ⟨.hbm, 466, rfl⟩
abbrev main_v359 : Ref sig .tc := ⟨.hbm, 467, rfl⟩
abbrev main_v360 : Ref sig .tc := ⟨.hbm, 468, rfl⟩
abbrev main_v361 : Ref sig .tc := ⟨.hbm, 469, rfl⟩
abbrev main_c_59 : Ref sig .tc := ⟨.hbm, 470, rfl⟩
abbrev main_v362 : Ref sig .tc := ⟨.hbm, 471, rfl⟩
abbrev main_v363 : Ref sig .tc := ⟨.hbm, 472, rfl⟩
abbrev main_c_60 : Ref sig .tc := ⟨.hbm, 473, rfl⟩
abbrev main_v364 : Ref sig .tc := ⟨.hbm, 474, rfl⟩
abbrev main_v365 : Ref sig .tc := ⟨.hbm, 475, rfl⟩
abbrev main_v366 : Ref sig .tc := ⟨.hbm, 476, rfl⟩
abbrev main_c_61 : Ref sig .tc := ⟨.hbm, 477, rfl⟩
abbrev main_v367 : Ref sig .tc := ⟨.hbm, 478, rfl⟩
abbrev main_v368 : Ref sig .tc := ⟨.hbm, 479, rfl⟩
abbrev main_c_62 : Ref sig .tc := ⟨.hbm, 480, rfl⟩
abbrev main_v369 : Ref sig .tc := ⟨.hbm, 481, rfl⟩
abbrev main_v370 : Ref sig .tc := ⟨.hbm, 482, rfl⟩
abbrev main_v371 : Ref sig .tc := ⟨.hbm, 483, rfl⟩
abbrev main_v372 : Ref sig .tc := ⟨.hbm, 484, rfl⟩
abbrev main_v373 : Ref sig .tc := ⟨.hbm, 485, rfl⟩
abbrev main_v374 : Ref sig .tc := ⟨.hbm, 486, rfl⟩
abbrev main_v375 : Ref sig .tc := ⟨.hbm, 487, rfl⟩
abbrev main_v376 : Ref sig .tc := ⟨.hbm, 488, rfl⟩
abbrev main_v377 : Ref sig .tc := ⟨.hbm, 489, rfl⟩
abbrev main_v378 : Ref sig .tc := ⟨.hbm, 490, rfl⟩
abbrev main_cst_63 : Ref sig .tc := ⟨.hbm, 491, rfl⟩
abbrev main_call2_v0 : Ref sig .tc := ⟨.hbm, 492, rfl⟩
abbrev main_call2_v1 : Ref sig .tc := ⟨.hbm, 493, rfl⟩
abbrev main_v379 : Ref sig .tc := ⟨.hbm, 494, rfl⟩
abbrev main_cst_64 : Ref sig .tc := ⟨.hbm, 495, rfl⟩
abbrev main_v380 : Ref sig .tc := ⟨.hbm, 496, rfl⟩
abbrev main_c_65 : Ref sig .tc := ⟨.hbm, 497, rfl⟩
abbrev main_v381 : Ref sig .tc := ⟨.hbm, 498, rfl⟩
abbrev main_v382 : Ref sig .tc := ⟨.hbm, 499, rfl⟩
abbrev main_v383 : Ref sig .tc := ⟨.hbm, 500, rfl⟩
abbrev main_call3_c : Ref sig .tc := ⟨.hbm, 501, rfl⟩
abbrev main_call3_v0 : Ref sig .tc := ⟨.hbm, 502, rfl⟩
abbrev main_call3_v1 : Ref sig .tc := ⟨.hbm, 503, rfl⟩
abbrev main_call3_c_0 : Ref sig .tc := ⟨.hbm, 504, rfl⟩
abbrev main_call3_v2 : Ref sig .tc := ⟨.hbm, 505, rfl⟩
abbrev main_call3_v3 : Ref sig .tc := ⟨.hbm, 506, rfl⟩
abbrev main_call3_v4 : Ref sig .tc := ⟨.hbm, 507, rfl⟩
abbrev main_call3_v5 : Ref sig .tc := ⟨.hbm, 508, rfl⟩
abbrev main_call3_c_1 : Ref sig .tc := ⟨.hbm, 509, rfl⟩
abbrev main_call3_c_2 : Ref sig .tc := ⟨.hbm, 510, rfl⟩
abbrev main_call3_v6 : Ref sig .tc := ⟨.hbm, 511, rfl⟩
abbrev main_call3_v7 : Ref sig .tc := ⟨.hbm, 512, rfl⟩
abbrev main_call3_v8 : Ref sig .tc := ⟨.hbm, 513, rfl⟩
abbrev main_call3_v9 : Ref sig .tc := ⟨.hbm, 514, rfl⟩
abbrev main_call3_v10 : Ref sig .tc := ⟨.hbm, 515, rfl⟩
abbrev main_call3_v11 : Ref sig .tc := ⟨.hbm, 516, rfl⟩
abbrev main_call3_c_3 : Ref sig .tc := ⟨.hbm, 517, rfl⟩
abbrev main_call3_v12 : Ref sig .tc := ⟨.hbm, 518, rfl⟩
abbrev main_call3_v13 : Ref sig .tc := ⟨.hbm, 519, rfl⟩
abbrev main_call3_c_4 : Ref sig .tc := ⟨.hbm, 520, rfl⟩
abbrev main_call3_v14 : Ref sig .tc := ⟨.hbm, 521, rfl⟩
abbrev main_v384 : Ref sig .tc := ⟨.hbm, 522, rfl⟩
abbrev main_v385 : Ref sig .tc := ⟨.hbm, 523, rfl⟩
abbrev main_c_66 : Ref sig .tc := ⟨.hbm, 524, rfl⟩
abbrev main_v386 : Ref sig .tc := ⟨.hbm, 525, rfl⟩
abbrev main_v387 : Ref sig .tc := ⟨.hbm, 526, rfl⟩
abbrev main_c_67 : Ref sig .tc := ⟨.hbm, 527, rfl⟩
abbrev main_v388 : Ref sig .tc := ⟨.hbm, 528, rfl⟩
abbrev main_v389 : Ref sig .tc := ⟨.hbm, 529, rfl⟩
abbrev main_v390 : Ref sig .tc := ⟨.hbm, 530, rfl⟩
abbrev main_c_68 : Ref sig .tc := ⟨.hbm, 531, rfl⟩
abbrev main_v391 : Ref sig .tc := ⟨.hbm, 532, rfl⟩
abbrev main_v392 : Ref sig .tc := ⟨.hbm, 533, rfl⟩
abbrev main_v393 : Ref sig .tc := ⟨.hbm, 534, rfl⟩
abbrev main_v394 : Ref sig .tc := ⟨.hbm, 535, rfl⟩
abbrev main_v395 : Ref sig .tc := ⟨.hbm, 536, rfl⟩
abbrev main_v396 : Ref sig .tc := ⟨.hbm, 537, rfl⟩
abbrev main_cst_69 : Ref sig .tc := ⟨.hbm, 538, rfl⟩
abbrev main_v397 : Ref sig .tc := ⟨.hbm, 539, rfl⟩
abbrev main_v398 : Ref sig .tc := ⟨.hbm, 540, rfl⟩
abbrev main_cst_70 : Ref sig .tc := ⟨.hbm, 541, rfl⟩
abbrev main_v399 : Ref sig .tc := ⟨.hbm, 542, rfl⟩
abbrev main_v400 : Ref sig .tc := ⟨.hbm, 543, rfl⟩
abbrev main_v401 : Ref sig .tc := ⟨.hbm, 544, rfl⟩
abbrev main_v402 : Ref sig .tc := ⟨.hbm, 545, rfl⟩

abbrev nD : Nat := 1
abbrev τ : Topo := Topo.v7x

variable {F : FTy → Type} [FloatOps F]
-- ==== Proof.Frames.lean ====
/- The frames of the three programs: each runs to the end, leaves its arguments as launched and its counters at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts

/-- The kernel's frame. -/
theorem kernel_frame : Cert.quiescent_Kernel := fun m ρ _ => Cert.Kernel.Gen.frame m ρ

/-- The idealized kernel's frame. -/
theorem ideal_frame : Cert.quiescent_KernelIdeal := fun m ρ _ => Cert.KernelIdeal.Gen.frame m ρ

/-- The reference's frame: it runs, keeps its arguments, and declares no counter that could be left raised. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

end Cert.Proof

end
-- ==== Proof.Reals.lean ====
/- Real numbers inside the extended reals: exponentials, logarithms, sums and the log of a sum of exponentials. -/
module

public import Idealize.ShloMosaic.Lib.Pointwise
public import Idealize.ShloMosaic.PureOps.Ideal
public import Mathlib.Data.Matrix.Mul
public import Mathlib.Analysis.SpecialFunctions.Log.Basic

@[expose] public section

noncomputable section

namespace Cert.Proof

open Idealize.ShloMosaic

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a positive real. -/
theorem log_coe_pos {r : ℝ} (h : 0 < r) : Ideal.log (r : EReal) = (Real.log r : EReal) := by
  rw [Ideal.log_coe, if_neg (not_le.mpr h)]

/-- The quotient of a real by a nonzero real. -/
theorem div_coe_real (x : ℝ) {y : ℝ} (h : y ≠ 0) : Ideal.div (x : EReal) (y : EReal) = ((x / y : ℝ) : EReal) := by
  rw [Ideal.div_coe h, ← EReal.coe_mul, mul_one_div]

/-- The largest of finitely many reals, at least one, is a real. -/
theorem fold_max_real {n : ℕ} [NeZero n] (f : Fin n → ℝ) :
    ∃ M : ℝ, Finset.univ.fold max (⊥ : EReal) (fun k => (f k : EReal)) = (M : EReal) := by
  have h : ∀ s : Finset (Fin n), s.Nonempty → ∃ M : ℝ, s.fold max (⊥ : EReal) (fun k => (f k : EReal)) = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact h _ Finset.univ_nonempty

/-- The log of the sum of exponentials, taken relative to the largest term. -/
def lse {n : ℕ} (f : Fin n → EReal) : EReal :=
  Finset.univ.fold max ⊥ f + Ideal.log (0 + ∑ k, Ideal.exp (f k - Finset.univ.fold max ⊥ f))

/-- On reals, it is the log of the sum of exponentials. -/
theorem lse_real {n : ℕ} [NeZero n] (f : Fin n → ℝ) :
    lse (fun k => (f k : EReal)) = (Real.log (∑ k, Real.exp (f k)) : ℝ) := by
  obtain ⟨M, hM⟩ := fold_max_real f
  have hs : ∑ k, Real.exp (f k - M) = (∑ k, Real.exp (f k)) * Real.exp (-M) := by
    rw [Finset.sum_mul]
    exact Finset.sum_congr rfl fun k _ => by rw [← Real.exp_add, sub_eq_add_neg]
  have hp : 0 < ∑ k, Real.exp (f k) := Finset.sum_pos (fun k _ => Real.exp_pos _) Finset.univ_nonempty
  unfold lse
  rw [hM, zero_add]
  simp only [← EReal.coe_sub, Ideal.exp_coe, ← coe_sum]
  rw [hs, log_coe_pos (mul_pos hp (Real.exp_pos _)), ← EReal.coe_add, Real.log_mul hp.ne' (Real.exp_pos _).ne', Real.log_exp]
  congr 1
  ring

/-- On logs of positive reals, it is the log of their sum. -/
theorem lse_log {n : ℕ} [NeZero n] (f : Fin n → EReal) (p : Fin n → ℝ) (hp : ∀ k, 0 < p k)
    (hf : ∀ k, f k = (Real.log (p k) : ℝ)) : lse f = (Real.log (∑ k, p k) : ℝ) := by
  rw [show f = fun k => ((Real.log (p k) : ℝ) : EReal) from funext hf, lse_real]
  exact congrArg _ (congrArg _ (Finset.sum_congr rfl fun k _ => Real.exp_log (hp k)))

/-- The f32 word of minus infinity. -/
theorem ofBits_neg_inf : Ideal.ofBits .f32 0xFF800000#32 = ⊥ := by
  simp [Ideal.ofBits, Ideal.ieee]

end Cert.Proof

end
-- ==== Proof.Scan.lean ====
/- One combination and one interleaving of the associative scan, for any number of matrices. -/
module

public import proofs.«01_k».proof.Proof.Reals
public import Idealize.ShloMosaic.Lib.Pointwise.IndexVar

@[expose] public section

noncomputable section

namespace Cert.Proof

open Idealize.ShloMosaic

/-- A table of matrices over the labels, one sequence of them per row of the batch. -/
abbrev Tables := Fin 32 → ℕ → Matrix (Fin 28) (Fin 28) ℝ

/-- Neighbours multiplied: the table of half the length. -/
def paired (D : Tables) : Tables := fun b t => D b (2 * t) * D b (2 * t + 1)

/-- The product of the matrices up to and including number `t`. -/
def upTo (D : Tables) : Tables := fun b t => Nat.rec (D b 0) (fun u M => M * D b (u + 1)) t

theorem upTo_zero (D : Tables) (b : Fin 32) : upTo D b 0 = D b 0 := rfl

theorem upTo_succ (D : Tables) (b : Fin 32) (t : ℕ) : upTo D b (t + 1) = upTo D b t * D b (t + 1) := rfl

/-- A prefix of pairs is a prefix of twice the length. -/
theorem upTo_paired (D : Tables) (b : Fin 32) (t : ℕ) : upTo (paired D) b t = upTo D b (2 * t + 1) := by
  induction t with
  | zero => rfl
  | succ t ih =>
    rw [upTo_succ, ih, show 2 * (t + 1) + 1 = (2 * t + 1 + 1) + 1 by ring, upTo_succ D b (2 * t + 1 + 1),
      upTo_succ D b (2 * t + 1), Matrix.mul_assoc]
    rfl

/-- Every entry of every matrix is positive. -/
def Pos (D : Tables) : Prop := ∀ b t i j, 0 < D b t i j

theorem mul_pos_entries {A B : Matrix (Fin 28) (Fin 28) ℝ} (hA : ∀ i j, 0 < A i j) (hB : ∀ i j, 0 < B i j) (i j : Fin 28) :
    0 < (A * B) i j := by
  rw [Matrix.mul_apply]
  exact Finset.sum_pos (fun k _ => mul_pos (hA i k) (hB k j)) Finset.univ_nonempty

theorem Pos.paired {D : Tables} (h : Pos D) : Pos (paired D) := fun b _ => mul_pos_entries (h b _) (h b _)

theorem Pos.upTo {D : Tables} (h : Pos D) : Pos (upTo D) := fun b t => by
  induction t with
  | zero => exact h b 0
  | succ t ih => exact mul_pos_entries ih (h b _)

/-- An array of `n` matrices per row. -/
abbrev Mats (n : ℕ) : Shape := ⟨4, ![32, n, 28, 28]⟩

/-- The array holds the logs of the table's first `n` matrices. -/
def Logs (n : ℕ) (X : FVec Ideal (Mats n) .f32) (D : Tables) : Prop :=
  ∀ b (t : Fin n) i j, X (ix4 b t i j) = (Real.log (D b t i j) : ℝ)

/-- On an axis of one position, that position is every position. -/
theorem only_position {n : ℕ} (t : Fin n) (p : n = 1 → 0 < n) : (if h : n = 1 then (⟨0, p h⟩ : Fin n) else t) = t := by
  split
  · next h => exact Fin.ext (by have := t.isLt; simp only; omega)
  · rfl

section Combine

variable {n : ℕ} (x y : FVec Ideal (Mats n) .f32)
  (h1 : (Mats n).BroadcastsInDim ⟨5, ![32, n, 28, 28, 1]⟩ ![0, 1, 2, 3])
  (h2 : Shape.BroadcastsInDim ⟨5, ![32, n, 28, 28, 1]⟩ ⟨5, ![32, n, 28, 28, 28]⟩ ![0, 1, 2, 3, 4])
  (h3 : (Mats n).BroadcastsInDim ⟨5, ![32, n, 1, 28, 28]⟩ ![0, 1, 3, 4])
  (h4 : Shape.BroadcastsInDim ⟨5, ![32, n, 1, 28, 28]⟩ ⟨5, ![32, n, 28, 28, 28]⟩ ![0, 1, 2, 3, 4])
  (h5 : (Mats n).BroadcastsInDim ⟨5, ![32, n, 28, 1, 28]⟩ ![0, 1, 2, 4])
  (h6 : Shape.BroadcastsInDim ⟨5, ![32, n, 28, 1, 28]⟩ ⟨5, ![32, n, 28, 28, 28]⟩ ![0, 1, 2, 3, 4])
  (hr : Shape.ReducesTo ⟨5, ![32, n, 28, 28, 28]⟩ [3] (Mats n))
  (hu : 0 < Shape.numel ⟨0, ![]⟩)

/-- The terms of a combination: entry `(i, k)` of the first plus entry `(k, j)` of the second. -/
abbrev terms : FVec Ideal ⟨5, ![32, n, 28, 28, 28]⟩ .f32 :=
  addf (broadcastInDim _ ![0, 1, 2, 3, 4] h2 (broadcastInDim _ ![0, 1, 2, 3] h1 x))
    (broadcastInDim _ ![0, 1, 2, 3, 4] h4 (broadcastInDim _ ![0, 1, 3, 4] h3 y))

/-- The largest term. -/
abbrev largest : FVec Ideal (Mats n) .f32 :=
  Host.reduce FloatOps.maximumf (terms x y h1 h2 h3 h4) (constant ⟨0, ![]⟩ .f32 0xFF800000#32) hr hu

/-- One combination of the scan. -/
abbrev combined : FVec Ideal (Mats n) .f32 :=
  addf (largest x y h1 h2 h3 h4 hr hu) (Host.log (Host.reduceAdd (Host.exp (subf (terms x y h1 h2 h3 h4)
    (broadcastInDim _ ![0, 1, 2, 3, 4] h6 (broadcastInDim _ ![0, 1, 2, 4] h5 (largest x y h1 h2 h3 h4 hr hu)))))
    (constant ⟨0, ![]⟩ .f32 0x00000000#32) hr hu))

theorem terms_apply (b : Fin 32) (t : Fin n) (i k j : Fin 28) :
    terms x y h1 h2 h3 h4 (ix5 b t i k j) = x (ix4 b t i k) + y (ix4 b t k j) := by
  unfold terms
  pointwise [only_position]

theorem largest_apply (b : Fin 32) (t : Fin n) (i j : Fin 28) :
    largest x y h1 h2 h3 h4 hr hu (ix4 b t i j)
      = Finset.univ.fold max ⊥ fun k => x (ix4 b t i k) + y (ix4 b t k j) := by
  unfold largest
  pointwise [ofBits_neg_inf, only_position]

theorem combined_apply (b : Fin 32) (t : Fin n) (i j : Fin 28) :
    combined x y h1 h2 h3 h4 h5 h6 hr hu (ix4 b t i j)
      = lse fun k => x (ix4 b t i k) + y (ix4 b t k j) := by
  unfold combined lse
  pointwise [ofBits_neg_inf, only_position]

end Combine

/-- Of logs of positive matrices, it is the log of their product. -/
theorem combined_logs {n : ℕ} {x y : FVec Ideal (Mats n) .f32} (h1 h2 h3 h4 h5 h6 hr hu) {A B C : Tables}
    (hA : Pos A) (hB : Pos B) (hx : Logs n x A) (hy : Logs n y B) (hC : ∀ b (t : Fin n), C b t = A b t * B b t) :
    Logs n (combined x y h1 h2 h3 h4 h5 h6 hr hu) C := by
  intro b t i j
  rw [combined_apply, lse_log _ (fun k => A b t i k * B b t k j) (fun k => mul_pos (hA b t i k) (hB b t k j)), hC,
    Matrix.mul_apply]
  intro k
  rw [hx, hy, ← EReal.coe_add, ← Real.log_mul (hA b t i k).ne' (hB b t k j).ne']

/-- Down one level: each matrix times its right neighbour. -/
theorem down {m n : ℕ} {X : FVec Ideal (Mats m) .f32} (hm : m = 2 * n)
    (s0 : (Mats m).SlicesBy ![0, 0, 0, 0] ![1, 2, 1, 1] (Mats n)) (s1 : (Mats m).SlicesBy ![0, 1, 0, 0] ![1, 2, 1, 1] (Mats n))
    (h1 h2 h3 h4 h5 h6 hr hu) {D : Tables} (hD : Pos D) (h : Logs m X D) :
    Logs n (combined (Host.slice (Mats n) ![0, 0, 0, 0] ![1, 2, 1, 1] X s0) (Host.slice (Mats n) ![0, 1, 0, 0] ![1, 2, 1, 1] X s1)
      h1 h2 h3 h4 h5 h6 hr hu) (paired D) := by
  refine combined_logs (A := fun b t => D b (2 * t)) (B := fun b t => D b (2 * t + 1)) _ _ _ _ _ _ _ _
    (fun b t => hD b _) (fun b t => hD b _) ?_ ?_ fun b t => rfl
  · intro b t i j
    pointwise
    rw [h]
  · intro b t i j
    pointwise
    rw [h]
    simp only [mul_comm, add_comm]

/-- Up one level: prefixes of pairs are the prefixes of odd number; one more matrix makes those of even number. -/
theorem up {m n r : ℕ} {X : FVec Ideal (Mats m) .f32} {Y : FVec Ideal (Mats n) .f32} (hm : m = 2 * n) (hr' : n = r + 1)
    (s0 : (Mats n).Slices ![0, 0, 0, 0] (Mats r)) (s1 : (Mats m).SlicesBy ![0, 2, 0, 0] ![1, 2, 1, 1] (Mats r))
    (s2 : (Mats m).Slices ![0, 0, 0, 0] (Mats 1)) (hc : Shape.Concatenates [Mats 1, Mats r] (Mats n) 1)
    (p0 : (Mats n).Pads ![0, 0, 0, 0] ![0, 1, 0, 0] ![0, 1, 0, 0] (Mats m))
    (p1 : (Mats n).Pads ![0, 1, 0, 0] ![0, 0, 0, 0] ![0, 1, 0, 0] (Mats m))
    (h1 h2 h3 h4 h5 h6 hr hu) {D : Tables} (hD : Pos D) (hX : Logs m X D) (hY : Logs n Y (upTo (paired D))) :
    Logs m (addf
      (pad (Mats m) ![0, 0, 0, 0] ![0, 1, 0, 0] ![0, 1, 0, 0]
        (concatenate (Mats n) 1 [⟨Mats 1, extractStridedSlice (Mats 1) ![0, 0, 0, 0] X s2⟩, ⟨Mats r,
          combined (extractStridedSlice (Mats r) ![0, 0, 0, 0] Y s0) (Host.slice (Mats r) ![0, 2, 0, 0] ![1, 2, 1, 1] X s1)
            h1 h2 h3 h4 h5 h6 hr hu⟩] hc) (constant ⟨0, ![]⟩ .f32 0x00000000#32) p0 hu)
      (pad (Mats m) ![0, 1, 0, 0] ![0, 0, 0, 0] ![0, 1, 0, 0] Y (constant ⟨0, ![]⟩ .f32 0x00000000#32) p1 hu)) (upTo D) := by
  have hcomb : Logs r (combined (extractStridedSlice (Mats r) ![0, 0, 0, 0] Y s0)
      (Host.slice (Mats r) ![0, 2, 0, 0] ![1, 2, 1, 1] X s1) h1 h2 h3 h4 h5 h6 hr hu) (fun b t => upTo D b (2 * t + 2)) := by
    refine combined_logs (A := upTo (paired D)) (B := fun b t => D b (2 * t + 2)) _ _ _ _ _ _ _ _
      hD.paired.upTo (fun b t => hD b _) ?_ ?_ ?_
    · intro b t i j
      pointwise
      rw [hY]
    · intro b t i j
      pointwise
      rw [hX]
      simp only [mul_comm, add_comm]
    · intro b t
      simp only [upTo_paired]
      exact upTo_succ D b _
  generalize combined (extractStridedSlice (Mats r) ![0, 0, 0, 0] Y s0)
      (Host.slice (Mats r) ![0, 2, 0, 0] ![1, 2, 1, 1] X s1) h1 h2 h3 h4 h5 h6 hr hu = Z at hcomb ⊢
  intro b t i j
  pointwise
  have ht := t.isLt
  rcases Nat.even_or_odd' t.val with ⟨u, hu' | hu'⟩
  · rw [dif_pos (show t.val % 2 = 0 ∧ t.val / 2 < n by omega),
      dif_neg (show ¬ (1 ≤ t.val ∧ (t.val - 1) % 2 = 0 ∧ (t.val - 1) / 2 < n) by omega), add_zero]
    rcases u with _ | u
    · rw [dif_pos (by omega), hX]
      simp only [hu']
      rfl
    · rw [dif_neg (by omega), hcomb]
      simp only [hu', show (2 * u + 2) / 2 - 1 = u by omega, show 2 * (u + 1) = 2 * u + 2 by ring]
  · rw [dif_neg (show ¬ (t.val % 2 = 0 ∧ t.val / 2 < n) by omega), dif_pos (by omega), zero_add, hY, upTo_paired]
    simp only [hu', show (2 * u + 1 - 1) / 2 = u by omega]

end Cert.Proof

end
-- ==== Proof.Trip.lean ====
/- One trip of each loop: sixteen steps of the scaled forward recursion, and one chunk of the labeled counts. -/
module
public import proofs.«01_k».proof.Proof.Gen.KernelIdeal.Loops
@[expose] public section
noncomputable section
namespace Cert.Proof
open Idealize.ShloMosaic Idealize.ShloMosaic.TcCoe Cert.KernelIdeal Cert.KernelIdeal.Gen Idealize.SL.Sem
variable {F : FTy → Type} [FloatOps F]

/-- The state of the recursion: the scaled values, the exponent offset, the reciprocal scale, the log scale. -/
abbrev Scaled (F : FTy → Type) : Type := FVec F S32x28 .f32 × FVec F S32x28 .f32 × FVec F S32x28 .f32 × FVec F S32x28 .f32

/-- The product with a table over the labels. -/
def against (E : FVec F S32x28 .f32) (w : FVec F S28x28 .bf16) : FVec F S32x28 .f32 :=
  matmul dot_S32x28_S28x28_S32x28_1_0_0_1_n_n none (truncf .bf16 E bitsLt_bf16_f32) w (constant S32x28 .f32 0x00000000#32)

/-- One position: the product with the transitions, times the scores' exponentials, rescaled. -/
def advance (w ones : FVec F S28x28 .bf16) (s : Scaled F) (x : Vec F S1x1x32x28 .f32) : Scaled F :=
  (mulf (against s.1 w) (mulf (exp (shapeCast S32x28 x shapeCasts_S1x1x32x28_S32x28)) s.2.2.1),
   addf s.2.1 s.2.2.2,
   divf (broadcast S32x28 (Scalar.ofBits .f32 0x3F800000#32)) (against s.1 ones),
   log (against s.1 ones))

/-- The first `n` positions of a chunk. -/
def chunk (w ones : FVec F S28x28 .bf16) (x : Fin 16 → Vec F S1x1x32x28 .f32) (s : Scaled F) : ℕ → Scaled F
  | 0 => s
  | n + 1 => advance w ones (chunk w ones x s n) (x (Fin.ofNat 16 n))

/-- Whether position `n` of chunk `a` is a row's last. -/
def isLast (last : IVec S32x28 32) (a : BitVec 32) (n : ℕ) : IVec S32x28 1 :=
  cmpi .eq (broadcast S32x28 (Scalar.addi (Scalar.muli a 16#32) (BitVec.ofNat 32 n))) last

/-- The values and offsets kept from each row's last position, after `n` positions of chunk `a`. -/
def kept (w ones : FVec F S28x28 .bf16) (last : IVec S32x28 32) (a : BitVec 32) (x : Fin 16 → Vec F S1x1x32x28 .f32) (s : Scaled F)
    (e : FVec F S32x28 .f32 × FVec F S32x28 .f32) : ℕ → FVec F S32x28 .f32 × FVec F S32x28 .f32
  | 0 => e
  | n + 1 => (select (isLast last a n) (chunk w ones x s (n + 1)).1 (kept w ones last a x s e n).1,
      select (isLast last a n) (chunk w ones x s (n + 1)).2.1 (kept w ones last a x s e n).2)

section Trips

variable (𝒱 : Variants) (c : Dev nD) (bd : Option 𝒱.V) (i : grid0.Coords) (arg1 : Memref sig .tc .vmem S1x512x32x28 .f32) (harg1 : arg1.IsWhole)
  (arg2 : Memref sig .tc .vmem S1x512x32 .i32) (harg2 : arg2.IsWhole) (arg3 : Memref sig .tc .vmem S1x1x32 .i32) (harg3 : arg3.IsWhole)
  (arg4 : Memref sig .tc .vmem S28x28 .f32) (harg4 : arg4.IsWhole) (arg5 : Memref sig .tc .vmem S1x28 .f32) (harg5 : arg5.IsWhole)
  (arg6 : Memref sig .tc .vmem S1x1x128 .f32) (harg6 : arg6.IsWhole) (arg7 : Memref sig .tc .vmem S1x1x128 .f32) (harg7 : arg7.IsWhole)

/-- The scores that step `n` of a trip of the first loop loads. -/
def load1 (X_arg1 : BufTy.Contents (Elt F) arg1.view.ty) (k : Fin k0_t1_loop.trips) (n : Fin 16) : Vec F S1x1x32x28 .f32 :=
  View.readAt (Elt F) arg1.view (Rect.unit (s := S1x512x32x28) (k0_off1 k (BitVec.ofNat 32 n)) S1x1x32x28.size (k0_off1_inb k n)).toLoadRect X_arg1

/-- The scores that step `n` of a trip of the second loop loads. -/
def load2 (X_arg1 : BufTy.Contents (Elt F) arg1.view.ty) (k : Fin k0_t2_loop.trips) (n : Fin 16) : Vec F S1x1x32x28 .f32 :=
  View.readAt (Elt F) arg1.view (Rect.unit (s := S1x512x32x28) (k0_off4 k (BitVec.ofNat 32 n)) S1x1x32x28.size (k0_off4_inb k n)).toLoadRect X_arg1

/-- The labels, along the last axis of a chunk. -/
abbrev labels : IVec S16x32x28 32 := iota .tc S16x32x28 32 [2] iota_S16x32x28_d2_w32

/-- A trip of the first loop: sixteen positions of the recursion, and a chunk of the counts. -/
theorem trip1_eq (v0 : Vec F S28x28 .f32) (X_arg1 : BufTy.Contents (Elt F) arg1.view.ty) (X_arg2 : BufTy.Contents (Elt F) arg2.view.ty)
    (k : Fin k0_t1_loop.trips) (E o r lr acc count Oc) :
    tripR_k0_t1 (F := F) 𝒱 c bd i arg1 harg1 arg2 harg2 arg3 harg3 arg4 harg4 arg5 harg5 arg6 harg6 arg7 harg7 v0 X_arg1 X_arg2 k
      (E, o, r, lr, acc, count, Oc)
      = (let s := chunk (k0_pay181 v0) (k0_pay182 (F := F)) (load1 arg1 X_arg1 k) (E, o, r, lr) 16
         let X := View.readAt (Elt F) arg1.view (Rect.unit (s := S1x512x32x28) (k0_off2 k) S1x16x32x28.size (k0_off2_inb k)).toLoadRect X_arg1
         let G := View.readAt (Elt F) arg2.view (Rect.unit (s := S1x512x32) (k0_off3 k) S1x16x32.size (k0_off3_inb k)).toLoadRect X_arg2
         (s.1, s.2.1, s.2.2.1, s.2.2.2, k0_pay178 labels acc X G, k0_pay177 labels count Oc G, k0_pay2 (k0_pay176 labels G))) := by
  unfold tripR_k0_t1 trip_k0_t1
  rfl

/-- A trip of the second loop: sixteen positions, the kept ones, and a chunk of the counts. -/
theorem trip2_eq (v2 v3 v5 v7 v12 v21 c15 c1) (X_arg1 : BufTy.Contents (Elt F) arg1.view.ty) (X_arg2 : BufTy.Contents (Elt F) arg2.view.ty)
    (k : Fin k0_t2_loop.trips) (E o r lr eE eo acc count Oc ends) :
    tripR_k0_t2 (F := F) 𝒱 c bd i arg1 harg1 arg2 harg2 arg3 harg3 arg4 harg4 arg5 harg5 arg6 harg6 arg7 harg7
        v2 v3 v5 v7 v12 v21 c15 c1 X_arg1 X_arg2 k (E, o, r, lr, eE, eo, acc, count, Oc, ends)
      = (let s := chunk v2 v3 (load2 arg1 X_arg1 k) (E, o, r, lr) 16
         let e := kept v2 v3 v12 (Scf.iv c15 c1 k) (load2 arg1 X_arg1 k) (E, o, r, lr) (eE, eo) 16
         let X := View.readAt (Elt F) arg1.view (Rect.unit (s := S1x512x32x28) (k0_off5 k) S1x16x32x28.size (k0_off5_inb k)).toLoadRect X_arg1
         let G := View.readAt (Elt F) arg2.view (Rect.unit (s := S1x512x32) (k0_off6 k) S1x16x32.size (k0_off6_inb k)).toLoadRect X_arg2
         (s.1, s.2.1, s.2.2.1, s.2.2.2, e.1, e.2, k0_pay178 v21 acc X G, k0_pay177 v21 count Oc G, k0_pay2 (k0_pay176 v21 G),
           k0_pay1 v7 ends (k0_pay179 v5 v21 G) (k0_pay180 (Scf.iv c15 c1 k)))) := by
  unfold tripR_k0_t2 trip_k0_t2
  rfl

end Trips
end Cert.Proof

end
-- ==== Proof.Forward.lean ====
/- The forward recursion on the reals, and the scaled steps of the kernel that follow it. -/
module

public import proofs.«01_k».proof.Proof.Reals
public import proofs.«01_k».proof.Proof.Trip

@[expose] public section

noncomputable section

namespace Cert.Proof

open Idealize.ShloMosaic Idealize.ShloMosaic.TcCoe Cert.KernelIdeal Cert.KernelIdeal.Gen

/-- A score for every row, position and label. -/
abbrev Scores := Fin 32 → ℕ → Fin 28 → ℝ

/-- The weight of all label paths of `n` positions that end in label `j`; before the first, the start label alone. -/
def forward (T : Fin 28 → Fin 28 → ℝ) (s : Scores) (b : Fin 32) : ℕ → Fin 28 → ℝ
  | 0, j => if j = 25 then 1 else 0
  | n + 1, j => (∑ i, forward T s b n i * Real.exp (T i j)) * Real.exp (s b n j)

theorem forward_nonneg (T : Fin 28 → Fin 28 → ℝ) (s : Scores) (b : Fin 32) (n : ℕ) (j : Fin 28) : 0 ≤ forward T s b n j := by
  induction n generalizing j with
  | zero => unfold forward; split <;> norm_num
  | succ n ih =>
    exact mul_nonneg (Finset.sum_nonneg fun i _ => mul_nonneg (ih i) (Real.exp_pos _).le) (Real.exp_pos _).le

/-- Some path has positive weight. -/
theorem forward_some (T : Fin 28 → Fin 28 → ℝ) (s : Scores) (b : Fin 32) (n : ℕ) : ∃ j, 0 < forward T s b n j := by
  induction n with
  | zero => exact ⟨25, by simp [forward]⟩
  | succ n ih =>
    obtain ⟨i, hi⟩ := ih
    exact ⟨0, mul_pos (Finset.sum_pos' (fun i _ => mul_nonneg (forward_nonneg T s b n i) (Real.exp_pos _).le)
      ⟨i, Finset.mem_univ _, mul_pos hi (Real.exp_pos _)⟩) (Real.exp_pos _)⟩

/-- After the first position, every label is reached. -/
theorem forward_pos (T : Fin 28 → Fin 28 → ℝ) (s : Scores) (b : Fin 32) (n : ℕ) (j : Fin 28) : 0 < forward T s b (n + 1) j := by
  obtain ⟨i, hi⟩ := forward_some T s b n
  exact mul_pos (Finset.sum_pos' (fun i _ => mul_nonneg (forward_nonneg T s b n i) (Real.exp_pos _).le)
    ⟨i, Finset.mem_univ _, mul_pos hi (Real.exp_pos _)⟩) (Real.exp_pos _)

/-- The state of the kernel's recursion after `n` positions: real numbers that are `forward` up to the row's scale. -/
def Follows (T : Fin 28 → Fin 28 → ℝ) (s : Scores) (n : ℕ) (S : Scaled Ideal) : Prop :=
  ∃ (e : Fin 32 → Fin 28 → ℝ) (o r l : Fin 32 → ℝ),
    (∀ b j, S.1 (ix2 b j) = e b j) ∧ (∀ b j, S.2.1 (ix2 b j) = o b) ∧ (∀ b j, S.2.2.1 (ix2 b j) = r b)
      ∧ (∀ b j, S.2.2.2 (ix2 b j) = l b) ∧ (∀ b, r b * Real.exp (l b) = 1)
      ∧ ∀ b j, e b j * Real.exp (o b) = forward T s b n j

theorem against_apply (E : FVec Ideal S32x28 .f32) (w : FVec Ideal S28x28 .bf16) (b : Fin 32) (j : Fin 28) :
    against E w (ix2 b j) = ∑ i : Fin 28, E (ix2 b i) * w (ix2 i j) := by
  unfold against
  pointwise

/-- One position of the kernel's recursion follows one of `forward`. -/
theorem Follows.advance {T : Fin 28 → Fin 28 → ℝ} {s : Scores} {n : ℕ} {S : Scaled Ideal} (h : Follows T s n S)
    {w ones : FVec Ideal S28x28 .bf16} (hw : ∀ i j, w (ix2 i j) = (Real.exp (T i j) : ℝ)) (h1 : ∀ i j, ones (ix2 i j) = 1)
    {x : Vec Ideal S1x1x32x28 .f32} (hx : ∀ b j, x (ix4 0 0 b j) = (s b n j : ℝ)) :
    Follows T s (n + 1) (advance w ones S x) := by
  obtain ⟨e, o, r, l, hE, ho, hr, hl, hrl, hf⟩ := h
  have hprod : ∀ b j, against S.1 w (ix2 b j) = ((∑ i, e b i * Real.exp (T i j) : ℝ) : EReal) := fun b j => by
    rw [against_apply, coe_sum]
    exact Finset.sum_congr rfl fun i _ => by rw [hE, hw, EReal.coe_mul]
  have hsum : ∀ b j, against S.1 ones (ix2 b j) = ((∑ i, e b i : ℝ) : EReal) := fun b j => by
    rw [against_apply, coe_sum]
    exact Finset.sum_congr rfl fun i _ => by rw [hE, h1, mul_one]
  have hpos : ∀ b, 0 < ∑ i, e b i := fun b => by
    have hsc : (∑ i, e b i) * Real.exp (o b) = ∑ i, forward T s b n i := by
      rw [Finset.sum_mul]
      exact Finset.sum_congr rfl fun i _ => hf b i
    obtain ⟨i, hi⟩ := forward_some T s b n
    have := Finset.sum_pos' (fun i _ => forward_nonneg T s b n i) ⟨i, Finset.mem_univ _, hi⟩
    rw [← hsc] at this
    exact pos_of_mul_pos_left this (Real.exp_pos _).le
  refine ⟨fun b j => (∑ i, e b i * Real.exp (T i j)) * (Real.exp (s b n j) * r b), fun b => o b + l b,
    fun b => 1 / ∑ i, e b i, fun b => Real.log (∑ i, e b i), fun b j => ?_, fun b j => ?_, fun b j => ?_, fun b j => ?_,
    fun b => ?_, fun b j => ?_⟩
  · unfold Proof.advance
    pointwise
    rw [hprod, hr, hx, Ideal.exp_coe, ← EReal.coe_mul, ← EReal.coe_mul]
  · unfold Proof.advance
    pointwise
    rw [ho, hl, EReal.coe_add]
  · unfold Proof.advance
    pointwise
    rw [hsum, ← EReal.coe_one, div_coe_real _ (hpos b).ne']
  · unfold Proof.advance
    pointwise
    rw [hsum, log_coe_pos (hpos b)]
  · rw [Real.exp_log (hpos b)]
    exact one_div_mul_cancel (hpos b).ne'
  · show _ = (∑ i, forward T s b n i * Real.exp (T i j)) * Real.exp (s b n j)
    have hsc : ∑ i, forward T s b n i * Real.exp (T i j) = (∑ i, e b i * Real.exp (T i j)) * Real.exp (o b) := by
      rw [Finset.sum_mul]
      exact Finset.sum_congr rfl fun i _ => by rw [← hf]; ring
    rw [hsc, Real.exp_add]
    linear_combination (∑ i, e b i * Real.exp (T i j)) * Real.exp (s b n j) * Real.exp (o b) * hrl b

/-- A chunk whose loads are the scores from position `p` on. -/
theorem Follows.chunk {T : Fin 28 → Fin 28 → ℝ} {s : Scores} {p : ℕ} {S : Scaled Ideal} (h : Follows T s p S)
    {w ones : FVec Ideal S28x28 .bf16} (hw : ∀ i j, w (ix2 i j) = (Real.exp (T i j) : ℝ)) (h1 : ∀ i j, ones (ix2 i j) = 1)
    {x : Fin 16 → Vec Ideal S1x1x32x28 .f32} (hx : ∀ n b j, x n (ix4 0 0 b j) = (s b (p + n) j : ℝ)) {n : ℕ} (hn : n ≤ 16) :
    Follows T s (p + n) (chunk w ones x S n) := by
  induction n with
  | zero => exact h
  | succ n ih =>
    refine (ih (by omega)).advance hw h1 fun b j => ?_
    rw [hx, show ((Fin.ofNat 16 n : Fin 16) : ℕ) = n from Nat.mod_eq_of_lt (by omega)]

/-- What is kept after `n` positions: for each row whose length is reached, `forward` at its length, up to scale. -/
def Keeps (T : Fin 28 → Fin 28 → ℝ) (s : Scores) (len : Fin 32 → ℕ) (n : ℕ)
    (e : FVec Ideal S32x28 .f32 × FVec Ideal S32x28 .f32) : Prop :=
  ∀ b j, len b ≤ n → ∃ v o : ℝ, e.1 (ix2 b j) = v ∧ e.2 (ix2 b j) = o ∧ v * Real.exp o = forward T s b (len b) j

/-- A chunk keeps them: the comparison with the last position picks the state just computed. -/
theorem Keeps.chunk {T : Fin 28 → Fin 28 → ℝ} {s : Scores} {len : Fin 32 → ℕ} {p : ℕ} {S : Scaled Ideal} (h : Follows T s p S)
    {e : FVec Ideal S32x28 .f32 × FVec Ideal S32x28 .f32} (he : Keeps T s len p e)
    {w ones : FVec Ideal S28x28 .bf16} (hw : ∀ i j, w (ix2 i j) = (Real.exp (T i j) : ℝ)) (h1 : ∀ i j, ones (ix2 i j) = 1)
    {x : Fin 16 → Vec Ideal S1x1x32x28 .f32} (hx : ∀ n b j, x n (ix4 0 0 b j) = (s b (p + n) j : ℝ))
    {last : IVec S32x28 32} {a : BitVec 32}
    (hl : ∀ n < 16, ∀ b j, isLast last a n (ix2 b j) = BitVec.ofBool (decide (len b = p + n + 1))) {n : ℕ} (hn : n ≤ 16) :
    Keeps T s len (p + n) (kept w ones last a x S e n) := by
  induction n with
  | zero => exact he
  | succ n ih =>
    intro b j hb
    have hs := hl n (by omega) b j
    by_cases hc : len b = p + n + 1
    · obtain ⟨v, o, r, l, hE, ho, -, -, -, hf⟩ := h.chunk hw h1 hx hn
      rw [decide_eq_true hc] at hs
      refine ⟨v b j, o b, ?_, ?_, ?_⟩
      · rw [← hE]; exact (congrArg (fun c => Scalar.select c _ _) hs)
      · rw [← ho b j]; exact (congrArg (fun c => Scalar.select c _ _) hs)
      · rw [hf, hc, add_assoc]
    · obtain ⟨v, o, hv, ho, hvo⟩ := ih (by omega) b j (by omega)
      rw [decide_eq_false hc] at hs
      refine ⟨v, o, ?_, ?_, hvo⟩
      · rw [← hv]; exact (congrArg (fun c => Scalar.select c _ _) hs)
      · rw [← ho]; exact (congrArg (fun c => Scalar.select c _ _) hs)

end Cert.Proof

end
-- ==== Proof.RefScan.lean ====
/- The reference's scan: nine levels down, nine up. -/
module

public import proofs.«01_k».proof.Proof.Scan
public import proofs.«01_k».proof.Proof.Forward
public import proofs.«01_k».proof.Proof.Gen.ReferenceIdeal.Run

@[expose] public section

noncomputable section

namespace Cert.Proof

open Idealize.ShloMosaic Idealize.ShloMosaic.TcCoe Cert.ReferenceIdeal Cert.ReferenceIdeal.Gen Cert.ReferenceIdeal.Value

/-- What the reference's two real arguments hold. -/
structure Given (V0 : Valuation τ sig (Elt Ideal)) (T : Fin 28 → Fin 28 → ℝ) (s : Scores) : Prop where
  scores : ∀ b (t : Fin 512) j, V0 main_arg0 (ix3 b t j) = ((s b t j : ℝ) : EReal)
  table : ∀ i j, V0 main_arg4 (ix2 i j) = ((T i j : ℝ) : EReal)

/-- The matrix of every row and position: the move, then the score. -/
def moving (T : Fin 28 → Fin 28 → ℝ) (s : Scores) : Tables := fun b t => Matrix.of fun i j => Real.exp (T i j + s b t j)

theorem moving_pos (T : Fin 28 → Fin 28 → ℝ) (s : Scores) : Pos (moving T s) := fun _ _ _ _ => Real.exp_pos _

/-- The tables of products of `2 ^ k` positions. -/
def pairs (D : Tables) : ℕ → Tables
  | 0 => D
  | k + 1 => paired (pairs D k)

theorem pairs_pos {D : Tables} (h : Pos D) (k : ℕ) : Pos (pairs D k) := by
  induction k with
  | zero => exact h
  | succ k ih => exact ih.paired

section Levels

variable {V0 : Valuation τ sig (Elt Ideal)} {T : Fin 28 → Fin 28 → ℝ} {s : Scores}

theorem down0 (h : Given V0 T s) : Logs 512 (res_main_v4 V0) (pairs (moving T s) 0) := by
  intro b t i j
  unfold res_main_v4
  pointwise
  rw [h.table, h.scores, ← EReal.coe_add]
  exact congrArg _ (Real.log_exp _).symm

theorem down1 (h : Given V0 T s) : Logs 256 (res_main_v19 V0) (pairs (moving T s) 1) :=
  down rfl _ _ _ _ _ _ _ _ _ _ (pairs_pos (moving_pos T s) 0) (down0 h)

theorem down2 (h : Given V0 T s) : Logs 128 (res_main_v34 V0) (pairs (moving T s) 2) :=
  down rfl _ _ _ _ _ _ _ _ _ _ (pairs_pos (moving_pos T s) 1) (down1 h)

theorem down3 (h : Given V0 T s) : Logs 64 (res_main_v49 V0) (pairs (moving T s) 3) :=
  down rfl _ _ _ _ _ _ _ _ _ _ (pairs_pos (moving_pos T s) 2) (down2 h)

theorem down4 (h : Given V0 T s) : Logs 32 (res_main_v64 V0) (pairs (moving T s) 4) :=
  down rfl _ _ _ _ _ _ _ _ _ _ (pairs_pos (moving_pos T s) 3) (down3 h)

theorem down5 (h : Given V0 T s) : Logs 16 (res_main_v79 V0) (pairs (moving T s) 5) :=
  down rfl _ _ _ _ _ _ _ _ _ _ (pairs_pos (moving_pos T s) 4) (down4 h)

theorem down6 (h : Given V0 T s) : Logs 8 (res_main_v94 V0) (pairs (moving T s) 6) :=
  down rfl _ _ _ _ _ _ _ _ _ _ (pairs_pos (moving_pos T s) 5) (down5 h)

theorem down7 (h : Given V0 T s) : Logs 4 (res_main_v109 V0) (pairs (moving T s) 7) :=
  down rfl _ _ _ _ _ _ _ _ _ _ (pairs_pos (moving_pos T s) 6) (down6 h)

theorem down8 (h : Given V0 T s) : Logs 2 (res_main_v124 V0) (pairs (moving T s) 8) :=
  down rfl _ _ _ _ _ _ _ _ _ _ (pairs_pos (moving_pos T s) 7) (down7 h)

theorem down9 (h : Given V0 T s) : Logs 1 (res_main_v139 V0) (pairs (moving T s) 9) :=
  down rfl _ _ _ _ _ _ _ _ _ _ (pairs_pos (moving_pos T s) 8) (down8 h)

theorem up9 (h : Given V0 T s) : Logs 1 (res_main_v139 V0) (upTo (pairs (moving T s) 9)) := fun b t i j => by
  rw [down9 h b t i j, show (t : ℕ) = 0 by omega, upTo_zero]

theorem up8 (h : Given V0 T s) : Logs 2 (res_main_v159 V0) (upTo (pairs (moving T s) 8)) :=
  up rfl rfl _ _ _ _ _ _ _ _ _ _ _ _ _ _ (pairs_pos (moving_pos T s) 8) (down8 h) (up9 h)

theorem up7 (h : Given V0 T s) : Logs 4 (res_main_v179 V0) (upTo (pairs (moving T s) 7)) :=
  up rfl rfl _ _ _ _ _ _ _ _ _ _ _ _ _ _ (pairs_pos (moving_pos T s) 7) (down7 h) (up8 h)

theorem up6 (h : Given V0 T s) : Logs 8 (res_main_v199 V0) (upTo (pairs (moving T s) 6)) :=
  up rfl rfl _ _ _ _ _ _ _ _ _ _ _ _ _ _ (pairs_pos (moving_pos T s) 6) (down6 h) (up7 h)

theorem up5 (h : Given V0 T s) : Logs 16 (res_main_v219 V0) (upTo (pairs (moving T s) 5)) :=
  up rfl rfl _ _ _ _ _ _ _ _ _ _ _ _ _ _ (pairs_pos (moving_pos T s) 5) (down5 h) (up6 h)

theorem up4 (h : Given V0 T s) : Logs 32 (res_main_v239 V0) (upTo (pairs (moving T s) 4)) :=
  up rfl rfl _ _ _ _ _ _ _ _ _ _ _ _ _ _ (pairs_pos (moving_pos T s) 4) (down4 h) (up5 h)

theorem up3 (h : Given V0 T s) : Logs 64 (res_main_v259 V0) (upTo (pairs (moving T s) 3)) :=
  up rfl rfl _ _ _ _ _ _ _ _ _ _ _ _ _ _ (pairs_pos (moving_pos T s) 3) (down3 h) (up4 h)

theorem up2 (h : Given V0 T s) : Logs 128 (res_main_v279 V0) (upTo (pairs (moving T s) 2)) :=
  up rfl rfl _ _ _ _ _ _ _ _ _ _ _ _ _ _ (pairs_pos (moving_pos T s) 2) (down2 h) (up3 h)

theorem up1 (h : Given V0 T s) : Logs 256 (res_main_v299 V0) (upTo (pairs (moving T s) 1)) :=
  up rfl rfl _ _ _ _ _ _ _ _ _ _ _ _ _ _ (pairs_pos (moving_pos T s) 1) (down1 h) (up2 h)

/-- A row of a prefix is the forward recursion from the start label. -/
theorem upTo_moving (T : Fin 28 → Fin 28 → ℝ) (s : Scores) (b : Fin 32) (t : ℕ) (j : Fin 28) :
    upTo (moving T s) b t 25 j = forward T s b (t + 1) j := by
  induction t generalizing j with
  | zero =>
    rw [upTo_zero, forward]
    simp only [forward, ite_mul, one_mul, zero_mul, Finset.sum_ite_eq', Finset.mem_univ, if_true]
    exact Real.exp_add _ _
  | succ t ih =>
    rw [upTo_succ, forward, Matrix.mul_apply, Finset.sum_mul]
    refine Finset.sum_congr rfl fun i _ => ?_
    rw [ih, mul_assoc, ← Real.exp_add]
    rfl

end Levels
end Cert.Proof

end
-- ==== Proof.Gathers.lean ====
/- The reference's gathers read at an index, where the index words hold the naturals they are made of. -/
module

public import proofs.«01_k».proof.Proof.RefScan

@[expose] public section

noncomputable section

namespace Cert.Proof

open Idealize.ShloMosaic Idealize.ShloMosaic.TcCoe Cert.ReferenceIdeal Cert.ReferenceIdeal.Gen Cert.ReferenceIdeal.Value

theorem word_toNat {n : ℕ} (h : n < 1000) : (BitVec.ofNat 32 n).toInt.toNat = n := by
  rw [BitVec.toInt_eq_toNat_of_lt (by rw [BitVec.toNat_ofNat]; omega), BitVec.toNat_ofNat, Int.toNat_natCast]
  omega

/-- A small word is not negative. -/
theorem slt_zero {n : ℕ} (h : n < 1000) : IntOp.cmpi .slt (BitVec.ofNat 32 n) 0#32 = 0#1 := by
  have : (BitVec.ofNat 32 n).slt 0#32 = false := by
    rw [BitVec.slt_eq_decide, BitVec.toInt_eq_toNat_of_lt (by rw [BitVec.toNat_ofNat]; omega)]
    simp
    omega
  simp [IntOp.cmpi, this]

theorem sge_zero {n : ℕ} (h : n < 1000) : IntOp.cmpi .sge (BitVec.ofNat 32 n) 0#32 = 1#1 := by
  have : (0#32).sle (BitVec.ofNat 32 n) = true := by
    rw [BitVec.sle_eq_decide, BitVec.toInt_eq_toNat_of_lt (x := BitVec.ofNat 32 n) (by rw [BitVec.toNat_ofNat]; omega)]
    simp
    omega
  simp [IntOp.cmpi, this]

theorem sle_small {n k : ℕ} (hk : k < 1000) (h : n ≤ k) : IntOp.cmpi .sle (BitVec.ofNat 32 n) (BitVec.ofNat 32 k) = 1#1 := by
  have : (BitVec.ofNat 32 n).sle (BitVec.ofNat 32 k) = true := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    simp only [decide_eq_true_eq]
    omega
  simp [IntOp.cmpi, this]

/-- Wrapping a small index word leaves it. -/
theorem wrap_word {n : ℕ} (h : n < 1000) (a : BitVec 32) :
    Scalar.select (IntOp.cmpi .slt (BitVec.ofNat 32 n) 0#32) a (BitVec.ofNat 32 n) = BitVec.ofNat 32 n := by
  rw [slt_zero h]
  rfl

/-- The conjunction of bits that are all set. -/
theorem fold_and {ι : Type*} (S : Finset ι) (f : ι → BitVec 1) (h : ∀ x, f x = 1#1) :
    Finset.fold IntOp.andi 1#1 f S = 1#1 := by
  classical
  induction S using Finset.induction_on with
  | empty => rfl
  | insert a S ha ih => rw [Finset.fold_insert ha, ih, h]; rfl

/-- An index word in range passes the printed range test. -/
theorem in_range {n k : ℕ} (hk : k < 1000) (h : n ≤ k) (w : BitVec 32) (hw : w = BitVec.ofNat 32 n) :
    IntOp.andi (IntOp.cmpi .sge w 0#32) (IntOp.cmpi .sle w (BitVec.ofNat 32 k)) = 1#1 := by
  rw [hw, sge_zero (by omega), sle_small hk h]
  rfl

section

variable {α : Type} {s si t : Shape} (d : GatherDims s si t)

/-- A gather reads the operand at `e` once its operand index has `e`'s coordinates. -/
theorem gather_eq (x : s.Idx → α) (i : IVec si 32) (y : t.Idx) (e : s.Idx)
    (h : ∀ a, d.start y i a + d.batchCoord y a + d.offCoord y a = (e a).val) : Host.gather d x i y = x e := by
  unfold Host.gather
  congr 1
  funext a
  exact Fin.ext (h a)

/-- The start on an axis the index map names is the natural its index word is made of. -/
theorem start_word_eq (i : IVec si 32) (y : t.Idx) (a : Fin s.rank) (ha : a ∈ d.startIndexMap) (e : si.Idx) (n : ℕ)
    (he : d.siIdx y ⟨d.startIndexMap.idxOf a, List.idxOf_lt_length_iff.2 ha⟩ = e) (hi : i e = BitVec.ofNat 32 n)
    (hn : n < 1000) (hs : n ≤ s.size a - d.sliceSizes a) : d.start y i a = n := by
  unfold GatherDims.start
  rw [dif_pos ha, he, hi, word_toNat hn]
  exact min_eq_left hs

theorem axis_named (i : IVec si 32) (y : t.Idx) (a : Fin s.rank) (ha : a ∈ d.startIndexMap) (hb : a ∉ d.operandBatchingDims)
    (hc : a ∉ d.sKept) (e : si.Idx) (n : ℕ) (he : d.siIdx y ⟨d.startIndexMap.idxOf a, List.idxOf_lt_length_iff.2 ha⟩ = e)
    (hi : i e = BitVec.ofNat 32 n) (hn : n < 1000) (hs : n ≤ s.size a - d.sliceSizes a) :
    d.start y i a + d.batchCoord y a + d.offCoord y a = n := by
  rw [start_word_eq d i y a ha e n he hi hn hs, d.batchCoord_eq_zero y a hb, d.offCoord_eq_zero y a hc, Nat.add_zero]

theorem axis_batch (i : IVec si 32) (y : t.Idx) (a : Fin s.rank) (ha : a ∉ d.startIndexMap) (hc : a ∉ d.sKept) :
    d.start y i a + d.batchCoord y a + d.offCoord y a = d.batchCoord y a := by
  rw [GatherDims.start, dif_neg ha, d.offCoord_eq_zero y a hc, Nat.zero_add, Nat.add_zero]

theorem axis_offset (i : IVec si 32) (y : t.Idx) (a : Fin s.rank) (ha : a ∉ d.startIndexMap) (hb : a ∉ d.operandBatchingDims) :
    d.start y i a + d.batchCoord y a + d.offCoord y a = d.offCoord y a := by
  rw [GatherDims.start, dif_neg ha, d.batchCoord_eq_zero y a hb, Nat.add_zero, Nat.zero_add]

end

variable {α : Type}

theorem gather_step (x : S32x512x28.Idx → α) (i : IVec S32x1x1 32) (b : Fin 32) (j : Fin 28) (k : Fin 512)
    (h : i (ix3 b 0 0) = BitVec.ofNat 32 k) :
    Host.gather gather_S32x512x28_S32x1x1_S32x1x28_2_1_0_0_1_2_1128 x i (ix3 b 0 j) = x (ix3 b k j) := by
  refine gather_eq _ _ _ _ _ fun a => ?_
  match a with
  | ⟨0, _⟩ => exact (axis_batch gather_S32x512x28_S32x1x1_S32x1x28_2_1_0_0_1_2_1128 i _ (0 : Fin 3) (by decide) (by decide)).trans rfl
  | ⟨1, _⟩ =>
    exact axis_named gather_S32x512x28_S32x1x1_S32x1x28_2_1_0_0_1_2_1128 i _ (1 : Fin 3) (by decide) (by decide) (by decide) (ix3 b 0 0) k
      (by funext c; match c with | ⟨0, _⟩ => rfl | ⟨1, _⟩ => rfl | ⟨2, _⟩ => rfl) h (by omega) (show (k : ℕ) ≤ 511 by omega)
  | ⟨2, _⟩ => exact (axis_offset gather_S32x512x28_S32x1x1_S32x1x28_2_1_0_0_1_2_1128 i _ (2 : Fin 3) (by decide) (by decide)).trans rfl

theorem gather_tag (x : S32x512x28.Idx → α) (i : IVec S32x512x1x1 32) (b : Fin 32) (t : Fin 512) (k : Fin 28)
    (h : i (ix4 b t 0 0) = BitVec.ofNat 32 k) :
    Host.gather gather_S32x512x28_S32x512x1x1_S32x512x1_n_2_01_01_2_3_111 x i (ix3 b t 0) = x (ix3 b t k) := by
  refine gather_eq _ _ _ _ _ fun a => ?_
  match a with
  | ⟨0, _⟩ => exact (axis_batch gather_S32x512x28_S32x512x1x1_S32x512x1_n_2_01_01_2_3_111 i _ (0 : Fin 3) (by decide) (by decide)).trans rfl
  | ⟨1, _⟩ => exact (axis_batch gather_S32x512x28_S32x512x1x1_S32x512x1_n_2_01_01_2_3_111 i _ (1 : Fin 3) (by decide) (by decide)).trans rfl
  | ⟨2, _⟩ =>
    exact axis_named gather_S32x512x28_S32x512x1x1_S32x512x1_n_2_01_01_2_3_111 i _ (2 : Fin 3) (by decide) (by decide) (by decide) (ix4 b t 0 0) k
      (by funext c; match c with | ⟨0, _⟩ => rfl | ⟨1, _⟩ => rfl | ⟨2, _⟩ => rfl | ⟨3, _⟩ => rfl) h (by omega) (show (k : ℕ) ≤ 27 by omega)

theorem gather_last (x : S32x512.Idx → α) (i : IVec S32x1x1 32) (b : Fin 32) (k : Fin 512)
    (h : i (ix3 b 0 0) = BitVec.ofNat 32 k) :
    Host.gather gather_S32x512_S32x1x1_S32x1_n_1_0_0_1_2_11 x i (ix2 b 0) = x (ix2 b k) := by
  refine gather_eq _ _ _ _ _ fun a => ?_
  match a with
  | ⟨0, _⟩ => exact (axis_batch gather_S32x512_S32x1x1_S32x1_n_1_0_0_1_2_11 i _ (0 : Fin 2) (by decide) (by decide)).trans rfl
  | ⟨1, _⟩ =>
    exact axis_named gather_S32x512_S32x1x1_S32x1_n_1_0_0_1_2_11 i _ (1 : Fin 2) (by decide) (by decide) (by decide) (ix3 b 0 0) k
      (by funext c; match c with | ⟨0, _⟩ => rfl | ⟨1, _⟩ => rfl | ⟨2, _⟩ => rfl) h (by omega) (show (k : ℕ) ≤ 511 by omega)

theorem gather_pair (x : S28x28.Idx → α) (i : IVec S32x2 32) (b : Fin 32) (k l : Fin 28)
    (h0 : i (ix2 b 0) = BitVec.ofNat 32 k) (h1 : i (ix2 b 1) = BitVec.ofNat 32 l) :
    Host.gather gather_S28x28_S32x2_S32_n_01_n_n_01_1_11 x i (ix1 b) = x (ix2 k l) := by
  refine gather_eq _ _ _ _ _ fun a => ?_
  match a with
  | ⟨0, _⟩ =>
    exact axis_named gather_S28x28_S32x2_S32_n_01_n_n_01_1_11 i _ (0 : Fin 2) (by decide) (by decide) (by decide) (ix2 b 0) k
      (by funext c; match c with | ⟨0, _⟩ => rfl | ⟨1, _⟩ => rfl) h0 (by omega) (show (k : ℕ) ≤ 27 by omega)
  | ⟨1, _⟩ =>
    exact axis_named gather_S28x28_S32x2_S32_n_01_n_n_01_1_11 i _ (1 : Fin 2) (by decide) (by decide) (by decide) (ix2 b 1) l
      (by funext c; match c with | ⟨0, _⟩ => rfl | ⟨1, _⟩ => rfl) h1 (by omega) (show (l : ℕ) ≤ 27 by omega)

theorem gather_pairs (x : S28x28.Idx → α) (i : IVec S32x511x2 32) (b : Fin 32) (t : Fin 511) (k l : Fin 28)
    (h0 : i (ix3 b t 0) = BitVec.ofNat 32 k) (h1 : i (ix3 b t 1) = BitVec.ofNat 32 l) :
    Host.gather gather_S28x28_S32x511x2_S32x511_n_01_n_n_01_2_11 x i (ix2 b t) = x (ix2 k l) := by
  refine gather_eq _ _ _ _ _ fun a => ?_
  match a with
  | ⟨0, _⟩ =>
    exact axis_named gather_S28x28_S32x511x2_S32x511_n_01_n_n_01_2_11 i _ (0 : Fin 2) (by decide) (by decide) (by decide) (ix3 b t 0) k
      (by funext c; match c with | ⟨0, _⟩ => rfl | ⟨1, _⟩ => rfl | ⟨2, _⟩ => rfl) h0 (by omega) (show (k : ℕ) ≤ 27 by omega)
  | ⟨1, _⟩ =>
    exact axis_named gather_S28x28_S32x511x2_S32x511_n_01_n_n_01_2_11 i _ (1 : Fin 2) (by decide) (by decide) (by decide) (ix3 b t 1) l
      (by funext c; match c with | ⟨0, _⟩ => rfl | ⟨1, _⟩ => rfl | ⟨2, _⟩ => rfl) h1 (by omega) (show (l : ℕ) ≤ 27 by omega)

end Cert.Proof

end
-- ==== Proof.Proper.lean ====
/- What the precondition says of the arguments, element by element. -/
module

public import proofs.«01_k».proof.Pre_proper
public import proofs.«01_k».proof.Proof.Gathers

@[expose] public section

noncomputable section

namespace Cert.Proof

open Idealize.ShloMosaic Cert.Pre_proper

theorem ofBits_inf : Ideal.ofBits .f32 0x7F800000#32 = ⊤ := by
  simp [Ideal.ofBits, Ideal.ieee]

theorem and_one {a c : BitVec 1} (h : IntOp.andi a c = 1#1) : a = 1#1 ∧ c = 1#1 := by
  revert a c
  decide

theorem ofBool_one {p : Bool} (h : BitVec.ofBool p = 1#1) : p = true := by
  revert p
  decide

/-- A word between two small naturals, compared signed, is a natural between them. -/
theorem between {w : BitVec 32} {lo : ℕ} (hlo : lo < 1000) (h : (BitVec.ofNat 32 lo).sle w = true) :
    lo ≤ w.toNat ∧ w.toInt = w.toNat := by
  rw [BitVec.sle_eq_decide, decide_eq_true_eq, BitVec.toInt_eq_toNat_of_lt (x := BitVec.ofNat 32 lo) (by rw [BitVec.toNat_ofNat]; omega),
    BitVec.toNat_ofNat] at h
  have hw := w.isLt
  have : w.toInt = w.toNat := by
    rw [BitVec.toInt_eq_toNat_cond] at h ⊢
    split at h <;> split <;> omega
  omega

theorem small_toInt {n : ℕ} (h : n < 1000) : (BitVec.ofNat 32 n).toInt = n := by
  rw [BitVec.toInt_eq_toNat_of_lt (by rw [BitVec.toNat_ofNat]; omega), BitVec.toNat_ofNat]
  omega

theorem slt_small {t n : ℕ} (ht : t < 1000) (hn : n < 1000) :
    IntOp.cmpi .slt (BitVec.ofNat 32 t) (BitVec.ofNat 32 n) = if t < n then 1#1 else 0#1 := by
  unfold IntOp.cmpi
  simp only [BitVec.slt_eq_decide, small_toInt ht, small_toInt hn, Nat.cast_lt]
  split
  · next h => rw [decide_eq_true h]; rfl
  · next h => rw [decide_eq_false h]; rfl

theorem real_of {x : EReal} (h : IntOp.andi (BitVec.ofBool (decide (⊥ < x))) (BitVec.ofBool (decide (x < ⊤))) = 1#1) :
    x = ((x.toReal : ℝ) : EReal) := by
  obtain ⟨h0, h1⟩ := and_one h
  exact (EReal.coe_toReal (of_decide_eq_true (ofBool_one h1)).ne (of_decide_eq_true (ofBool_one h0)).ne').symm

variable [Cert.Pre_proper.Facts] (a0 : FVec Ideal S32x512x28 .f32) (a1 : IVec S32 32) (a2 : IVec S32x512 32) (a3 : IVec S32x512 1)
  (a4 : FVec Ideal S28x28 .f32)

theorem proper_scores (h : (fn (F := Ideal) a0 a1 a2 a3 a4).1 = fun _ => 1#1) (b : Fin 32) (t : Fin 512) (j : Fin 28) :
    a0 (ix3 b t j) = (((a0 (ix3 b t j) : EReal).toReal : ℝ) : EReal) := by
  have e : (fn (F := Ideal) a0 a1 a2 a3 a4).1 (ix3 b t j) = IntOp.andi (BitVec.ofBool (decide (⊥ < a0 (ix3 b t j))))
      (BitVec.ofBool (decide (a0 (ix3 b t j) < ⊤))) := by
    unfold fn fn_part1
    pointwise [ofBits_neg_inf, ofBits_inf]
  exact real_of (e.symm.trans (congrFun h _))

theorem proper_table (h : (fn (F := Ideal) a0 a1 a2 a3 a4).2.1 = fun _ => 1#1) (i j : Fin 28) :
    a4 (ix2 i j) = (((a4 (ix2 i j) : EReal).toReal : ℝ) : EReal) := by
  have e : (fn (F := Ideal) a0 a1 a2 a3 a4).2.1 (ix2 i j) = IntOp.andi (BitVec.ofBool (decide (⊥ < a4 (ix2 i j))))
      (BitVec.ofBool (decide (a4 (ix2 i j) < ⊤))) := by
    unfold fn fn_part1
    pointwise [ofBits_neg_inf, ofBits_inf]
  exact real_of (e.symm.trans (congrFun h _))

theorem proper_lens (h : (fn (F := Ideal) a0 a1 a2 a3 a4).2.2.1 = fun _ => 1#1) (b : Fin 32) :
    256 ≤ (a1 (ix1 b)).toNat ∧ (a1 (ix1 b)).toNat ≤ 512 := by
  have e : (fn (F := Ideal) a0 a1 a2 a3 a4).2.2.1 (ix1 b)
      = IntOp.andi (IntOp.cmpi .sge (a1 (ix1 b)) 256#32) (IntOp.cmpi .sle (a1 (ix1 b)) 512#32) := by
    unfold fn fn_part1
    pointwise
  obtain ⟨h0, h1⟩ := and_one (e.symm.trans (congrFun h _))
  obtain ⟨h2, h3⟩ := between (lo := 256) (by omega) (ofBool_one h0)
  have h4 := ofBool_one h1
  rw [BitVec.sle_eq_decide, decide_eq_true_eq, h3, small_toInt (n := 512) (by omega)] at h4
  exact ⟨h2, by exact_mod_cast h4⟩

theorem proper_tags (h : (fn (F := Ideal) a0 a1 a2 a3 a4).2.2.2.1 = fun _ => 1#1) (b : Fin 32) (t : Fin 512) :
    (a2 (ix2 b t)).toNat < 28 := by
  have e : (fn (F := Ideal) a0 a1 a2 a3 a4).2.2.2.1 (ix2 b t)
      = IntOp.andi (IntOp.cmpi .sge (a2 (ix2 b t)) 0#32) (IntOp.cmpi .slt (a2 (ix2 b t)) 28#32) := by
    unfold fn fn_part1
    pointwise
  obtain ⟨h0, h1⟩ := and_one (e.symm.trans (congrFun h _))
  obtain ⟨-, h3⟩ := between (lo := 0) (by omega) (ofBool_one h0)
  have h4 := ofBool_one h1
  rw [BitVec.slt_eq_decide, decide_eq_true_eq, h3, small_toInt (n := 28) (by omega)] at h4
  exact_mod_cast h4

theorem proper_mask (h : (fn (F := Ideal) a0 a1 a2 a3 a4).2.2.2.2 = fun _ => 1#1) (b : Fin 32) (t : Fin 512) :
    a3 (ix2 b t) = IntOp.cmpi .slt (BitVec.ofNat 32 t) (a1 (ix1 b)) := by
  have e : (fn (F := Ideal) a0 a1 a2 a3 a4).2.2.2.2 (ix2 b t)
      = IntOp.cmpi .eq (a3 (ix2 b t)) (IntOp.cmpi .slt (BitVec.ofNat 32 t) (a1 (ix1 b))) := by
    unfold fn fn_part1
    pointwise
  exact eq_of_beq (ofBool_one (e.symm.trans (congrFun h _)))

end Cert.Proof

end
-- ==== Proof.Counts.lean ====
/- The labeled score as the kernel counts it, chunk by chunk. -/
module

public import proofs.«01_k».proof.Proof.Forward

@[expose] public section

noncomputable section

namespace Cert.Proof

open Idealize.ShloMosaic Idealize.ShloMosaic.TcCoe Cert.KernelIdeal Cert.KernelIdeal.Gen

/-- One where the tag is this label. -/
def hot (g : BitVec 32) (j : Fin 28) : ℝ := if BitVec.ofNat 32 j = g then 1 else 0

theorem select_eq {α : Type} (a c : BitVec 32) (x y : α) :
    Scalar.select (IntOp.cmpi CmpIPredicate.eq a c) x y = if a = c then x else y := by
  unfold IntOp.cmpi
  by_cases h : a = c
  · rw [if_pos h, h]
    simp [Scalar.select]
  · rw [if_neg h, beq_eq_false_iff_ne.2 h]
    rfl

theorem pay176_apply (G : Vec Ideal S1x16x32 .i32) (t : Fin 16) (b : Fin 32) (j : Fin 28) :
    k0_pay176 (F := Ideal) labels G (ix3 t b j) = (hot (G (ix3 0 t b)) j : EReal) := by
  unfold k0_pay176 labels
  pointwise
  rw [select_eq]
  unfold hot
  split <;> simp

/-- The emitted scores of a chunk are added. -/
theorem pay178_apply (acc : FVec Ideal S1x32 .f32) (X : Vec Ideal S1x16x32x28 .f32) (G : Vec Ideal S1x16x32 .i32) (b : Fin 32) :
    k0_pay178 (F := Ideal) labels acc X G (ix2 0 b)
      = acc (ix2 0 b) + ∑ t : Fin 16, ∑ j : Fin 28, X (ix4 0 t b j) * (hot (G (ix3 0 t b)) j : EReal) := by
  unfold k0_pay178
  pointwise [pay176_apply]

/-- A sum over positions and rows is one over both, flattened. -/
theorem sum_flat (f : Fin 16 → Fin 32 → EReal) :
    ∑ t, ∑ b, f t b = ∑ x : Fin 512, f ⟨x / 32, by omega⟩ ⟨x % 32, by omega⟩ := by
  rw [← Fintype.sum_prod_type', ← Equiv.sum_comp (finProdFinEquiv (m := 16) (n := 32))]
  refine Finset.sum_congr rfl fun x _ => ?_
  obtain ⟨t, b⟩ := x
  have h := finProdFinEquiv_apply_val (t, b)
  have hb := b.2
  simp only at h
  congr 1 <;> refine Fin.ext ?_ <;> simp only [h] <;> omega

/-- The moves of a chunk are counted: the labels shifted by one position against the labels. -/
theorem pay177_apply (count : FVec Ideal S28x28 .f32) (Oc : FVec Ideal S1x32x28 .f32) (G : Vec Ideal S1x16x32 .i32) (i j : Fin 28) :
    k0_pay177 (F := Ideal) labels count Oc G (ix2 i j)
      = count (ix2 i j) + ∑ t : Fin 16, ∑ b : Fin 32, (if h : (t : ℕ) < 1 then Oc (ix3 0 b i) else
         (hot (G (ix3 0 ⟨t - 1, by omega⟩ b)) i : EReal)) * (hot (G (ix3 0 t b)) j : EReal) := by
  generalize hR : (∑ t : Fin 16, _ : EReal) = R
  unfold k0_pay177
  pointwise [pay176_apply]
  rw [← hR, sum_flat]
  congr 1

theorem pay2_apply (O : FVec Ideal S16x32x28 .f32) (b : Fin 32) (j : Fin 28) :
    k0_pay2 (F := Ideal) O (ix3 0 b j) = O (ix3 15 b j) := by
  unfold k0_pay2
  pointwise

theorem pay1_apply (v7 : IVec S1x32 32) (e : FVec Ideal S1x32 .f32) (w : FVec Ideal S16x32 .f32) (a : IVec S16x32 32) (b : Fin 32) :
    k0_pay1 (F := Ideal) v7 e w a (ix2 0 b) = e (ix2 0 b) + ∑ t : Fin 16, if a (ix2 t b) = v7 (ix2 0 b) - 1#32 then w (ix2 t b) else 0 := by
  unfold k0_pay1
  pointwise
  simp only [select_eq]
  rfl

theorem pay179_apply (v5 : FVec Ideal S1x28 .f32) (G : Vec Ideal S1x16x32 .i32) (t : Fin 16) (b : Fin 32) :
    k0_pay179 (F := Ideal) v5 labels G (ix2 t b) = ∑ j : Fin 28, v5 (ix2 0 j) * (hot (G (ix3 0 t b)) j : EReal) := by
  unfold k0_pay179
  pointwise [pay176_apply]

theorem pay180_apply (a : BitVec 32) (t : Fin 16) (b : Fin 32) :
    k0_pay180 a (ix2 t b) = a * 16#32 + BitVec.ofNat 32 t := by
  unfold k0_pay180
  pointwise
  rfl

/-! ## The counts on the reals -/

/-- A tag for every row and position; a masked one is no label. -/
abbrev Tags := Fin 32 → ℕ → BitVec 32

/-- The label before a position; before the first, the start label. -/
def before (g : Tags) (b : Fin 32) : ℕ → Fin 28 → ℝ
  | 0, i => if i = 25 then 1 else 0
  | n + 1, i => hot (g b n) i

/-- What `n` positions emit. -/
def emitted (s : Scores) (g : Tags) (n : ℕ) (b : Fin 32) : ℝ := ∑ t ∈ Finset.range n, ∑ j, s b t j * hot (g b t) j

/-- How often label `j` follows label `i` in `n` positions of all rows. -/
def moves (g : Tags) (n : ℕ) (i j : Fin 28) : ℝ := ∑ t ∈ Finset.range n, ∑ b, before g b t i * hot (g b t) j

/-- The end scores of the rows that end within `n` positions. -/
def ended (T : Fin 28 → Fin 28 → ℝ) (g : Tags) (len : Fin 32 → ℕ) (n : ℕ) (b : Fin 32) : ℝ :=
  ∑ t ∈ Finset.range n, if t + 1 = len b then ∑ j, T j 26 * hot (g b t) j else 0

/-- The kernel's counts after `n` positions. -/
structure Counted (s : Scores) (g : Tags) (n : ℕ) (acc : FVec Ideal S1x32 .f32) (count : FVec Ideal S28x28 .f32)
    (Oc : FVec Ideal S1x32x28 .f32) : Prop where
  acc : ∀ b, acc (ix2 0 b) = (emitted s g n b : ℝ)
  count : ∀ i j, count (ix2 i j) = (moves g n i j : ℝ)
  carry : ∀ b i, Oc (ix3 0 b i) = (before g b n i : ℝ)

theorem sum_chunk (f : ℕ → ℝ) (p : ℕ) :
    ((∑ t ∈ Finset.range (p + 16), f t : ℝ) : EReal) = ((∑ t ∈ Finset.range p, f t : ℝ) : EReal) + ∑ t : Fin 16, ((f (p + t) : ℝ) : EReal) := by
  rw [Finset.sum_range_add, EReal.coe_add, Finset.sum_range fun x => f (p + x)]
  rw [coe_sum Finset.univ]

/-- A chunk of counts. -/
theorem Counted.chunk {s : Scores} {g : Tags} {p : ℕ} {acc count Oc} (h : Counted s g p acc count Oc)
    {X : Vec Ideal S1x16x32x28 .f32} (hX : ∀ t b j, X (ix4 0 t b j) = (s b (p + t) j : ℝ))
    {G : Vec Ideal S1x16x32 .i32} (hG : ∀ t b, G (ix3 0 t b) = g b (p + t)) :
    Counted s g (p + 16) (k0_pay178 labels acc X G) (k0_pay177 labels count Oc G) (k0_pay2 (k0_pay176 labels G)) where
  acc b := by
    rw [pay178_apply, h.acc, emitted, emitted, sum_chunk]
    congr 1
    refine Finset.sum_congr rfl fun t _ => ?_
    rw [coe_sum]
    exact Finset.sum_congr rfl fun j _ => by rw [hX, hG, EReal.coe_mul]
  count i j := by
    rw [pay177_apply, h.count, moves, moves, sum_chunk]
    congr 1
    refine Finset.sum_congr rfl fun t _ => ?_
    rw [coe_sum]
    refine Finset.sum_congr rfl fun b _ => ?_
    rw [EReal.coe_mul, hG]
    congr 1
    obtain ⟨t, ht⟩ := t
    cases t with
    | zero => rw [dif_pos (by show (0 : ℕ) < 1; omega), h.carry]; rfl
    | succ t => rw [dif_neg (by show ¬ t + 1 < 1; omega), hG]; rfl
  carry b i := by rw [pay2_apply, pay176_apply, hG]; rfl

/-- A chunk of end scores. -/
theorem ended_chunk {T : Fin 28 → Fin 28 → ℝ} {g : Tags} {len : Fin 32 → ℕ} {p : ℕ} {e : FVec Ideal S1x32 .f32}
    (he : ∀ b, e (ix2 0 b) = (ended T g len p b : ℝ)) {v5 : FVec Ideal S1x28 .f32} (h5 : ∀ j, v5 (ix2 0 j) = (T j 26 : ℝ))
    {v7 : IVec S1x32 32} (h7 : ∀ b, v7 (ix2 0 b) = BitVec.ofNat 32 (len b)) (hl : ∀ b, 1 ≤ len b ∧ len b ≤ 512)
    {G : Vec Ideal S1x16x32 .i32} (hG : ∀ t b, G (ix3 0 t b) = g b (p + t))
    {a : BitVec 32} (ha : a * 16#32 = BitVec.ofNat 32 p) (hp : p + 16 ≤ 512) (b : Fin 32) :
    k0_pay1 v7 e (k0_pay179 v5 labels G) (k0_pay180 a) (ix2 0 b) = (ended T g len (p + 16) b : ℝ) := by
  rw [pay1_apply, he, ended, ended, sum_chunk]
  congr 1
  refine Finset.sum_congr rfl fun t _ => ?_
  rw [pay180_apply, pay179_apply, ha, h7]
  have hb := hl b
  have ht := t.2
  have hiff : (BitVec.ofNat 32 p + BitVec.ofNat 32 (t : ℕ) = BitVec.ofNat 32 (len b) - 1#32) ↔ p + t + 1 = len b := by
    rw [← BitVec.toNat_inj]
    simp only [BitVec.toNat_add, BitVec.toNat_sub, BitVec.toNat_ofNat]
    omega
  by_cases hc : p + t + 1 = len b
  · rw [if_pos (hiff.2 hc), if_pos hc, coe_sum]
    exact Finset.sum_congr rfl fun j _ => by rw [h5, hG, EReal.coe_mul]
  · rw [if_neg (fun h => hc (hiff.1 h)), if_neg hc, EReal.coe_zero]

end Cert.Proof

end
-- ==== Proof.Loops.lean ====
/- The kernel's two loops over the whole of the inputs. -/
module

public import proofs.«01_k».proof.Proof.Counts
public import Idealize.ShloMosaic.Lib.Pipeline.ValueKit.Tiles

@[expose] public section

noncomputable section

namespace Cert.Proof

open Idealize.ShloMosaic Idealize.ShloMosaic.TcCoe Cert.KernelIdeal Cert.KernelIdeal.Gen

/-! ## Where the loads read -/

theorem trips1 : k0_t1_loop.trips = 15 := by decide

theorem trips2 : k0_t2_loop.trips = 17 := by decide

theorem off1_eq (k : Fin k0_t1_loop.trips) (n : Fin 16) : k0_off1 k (BitVec.ofNat 32 n) = (![0, 16 * k + n, 0, 0] : Fin 4 → ℕ) := by
  have hk : (k : ℕ) < 15 := trips1 ▸ k.2
  have hn := n.2
  have h : ((0#32 + BitVec.ofNat 32 k * 1#32) * 16#32 + BitVec.ofNat 32 n).toNat = 16 * k + n := by
    simp only [BitVec.toNat_add, BitVec.toNat_mul, BitVec.toNat_ofNat]
    omega
  exact congrArg (fun x => ![0, x, 0, 0]) h

theorem off2_eq (k : Fin k0_t1_loop.trips) : k0_off2 k = (![0, 16 * k, 0, 0] : Fin 4 → ℕ) := by
  have hk : (k : ℕ) < 15 := trips1 ▸ k.2
  have h : ((0#32 + BitVec.ofNat 32 k * 1#32) * 16#32).toNat = 16 * k := by
    simp only [BitVec.toNat_add, BitVec.toNat_mul, BitVec.toNat_ofNat]
    omega
  exact congrArg (fun x => ![0, x, 0, 0]) h

theorem off3_eq (k : Fin k0_t1_loop.trips) : k0_off3 k = (![0, 16 * k, 0] : Fin 3 → ℕ) := by
  have hk : (k : ℕ) < 15 := trips1 ▸ k.2
  have h : ((0#32 + BitVec.ofNat 32 k * 1#32) * 16#32).toNat = 16 * k := by
    simp only [BitVec.toNat_add, BitVec.toNat_mul, BitVec.toNat_ofNat]
    omega
  exact congrArg (fun x => ![0, x, 0]) h

theorem off4_eq (k : Fin k0_t2_loop.trips) (n : Fin 16) : k0_off4 k (BitVec.ofNat 32 n) = (![0, 240 + 16 * k + n, 0, 0] : Fin 4 → ℕ) := by
  have hk : (k : ℕ) < 17 := trips2 ▸ k.2
  have hn := n.2
  have h : ((15#32 + BitVec.ofNat 32 k * 1#32) * 16#32 + BitVec.ofNat 32 n).toNat = 240 + 16 * k + n := by
    simp only [BitVec.toNat_add, BitVec.toNat_mul, BitVec.toNat_ofNat]
    omega
  exact congrArg (fun x => ![0, x, 0, 0]) h

theorem chunk_word (k : Fin k0_t2_loop.trips) : Scf.iv 15#32 1#32 k * 16#32 = BitVec.ofNat 32 (240 + 16 * k) := by
  have hk : (k : ℕ) < 17 := trips2 ▸ k.2
  have h : ((15#32 + BitVec.ofNat 32 k * 1#32) * 16#32).toNat = (BitVec.ofNat 32 (240 + 16 * k)).toNat := by
    simp only [BitVec.toNat_add, BitVec.toNat_mul, BitVec.toNat_ofNat]
    omega
  exact BitVec.toNat_inj.1 h

theorem off5_eq (k : Fin k0_t2_loop.trips) : k0_off5 k = (![0, 240 + 16 * k, 0, 0] : Fin 4 → ℕ) := by
  have hk : (k : ℕ) < 17 := trips2 ▸ k.2
  have h : (Scf.iv 15#32 1#32 k * 16#32).toNat = 240 + 16 * k := by
    rw [chunk_word, BitVec.toNat_ofNat]
    omega
  exact congrArg (fun x => ![0, x, 0, 0]) h

theorem off6_eq (k : Fin k0_t2_loop.trips) : k0_off6 k = (![0, 240 + 16 * k, 0] : Fin 3 → ℕ) := by
  have hk : (k : ℕ) < 17 := trips2 ▸ k.2
  have h : (Scf.iv 15#32 1#32 k * 16#32).toNat = 240 + 16 * k := by
    rw [chunk_word, BitVec.toNat_ofNat]
    omega
  exact congrArg (fun x => ![0, x, 0]) h

/-- A load from a whole buffer, at an index: the contents where the load's offsets place it. -/
theorem load_apply {S : Shape} {e : EltTy} {arg : Memref sig .tc .vmem S e} (harg : arg.IsWhole) (x : Vec Ideal S e)
    {off off' size : Fin S.rank → ℕ} (ho : off = off') (inb) (y : (Rect.unit off size inb).shape.Idx) (i : S.Idx)
    (hi : ∀ a, (i a : ℕ) = off' a + y a) :
    View.readAt (Elt Ideal) arg.view (Rect.unit off size inb).toLoadRect (harg.unread x) y = x i := by
  subst ho
  rw [View.readAt_eq_ld, harg.read_unread]
  exact View.ld_unit_apply_of x off size inb y i hi

/-! ## The inputs -/

/-- What the kernel's five inputs hold. -/
structure Inputs (T : Fin 28 → Fin 28 → ℝ) (s : Scores) (g : Tags) (len : Fin 32 → ℕ) (x0 : Vec Ideal S1x512x32x28 .f32)
    (x1 : Vec Ideal S1x512x32 .i32) (x2 : Vec Ideal S1x1x32 .i32) (x3 : Vec Ideal S28x28 .f32) (x4 : Vec Ideal S1x28 .f32) : Prop where
  scores : ∀ (t : Fin 512) b j, x0 (ix4 0 t b j) = (s b t j : ℝ)
  tags : ∀ (t : Fin 512) b, x1 (ix3 0 t b) = g b t
  lens : ∀ b, x2 (ix3 0 0 b) = BitVec.ofNat 32 (len b)
  table : ∀ i j, x3 (ix2 i j) = (T i j : ℝ)
  last : ∀ j, x4 (ix2 0 j) = (T j 26 : ℝ)
  range : ∀ b, 256 ≤ len b ∧ len b ≤ 512

section Loops

variable (c : Dev nD) (i : grid0.Coords) (arg1 : Memref sig .tc .vmem S1x512x32x28 .f32) (harg1 : arg1.IsWhole)
  (arg2 : Memref sig .tc .vmem S1x512x32 .i32) (harg2 : arg2.IsWhole) (arg3 : Memref sig .tc .vmem S1x1x32 .i32) (harg3 : arg3.IsWhole)
  (arg4 : Memref sig .tc .vmem S28x28 .f32) (harg4 : arg4.IsWhole) (arg5 : Memref sig .tc .vmem S1x28 .f32) (harg5 : arg5.IsWhole)
  (arg6 : Memref sig .tc .vmem S1x1x128 .f32) (harg6 : arg6.IsWhole) (arg7 : Memref sig .tc .vmem S1x1x128 .f32) (harg7 : arg7.IsWhole)
  {T : Fin 28 → Fin 28 → ℝ} {s : Scores} {g : Tags} {len : Fin 32 → ℕ} {x0 : Vec Ideal S1x512x32x28 .f32}
  {x1 : Vec Ideal S1x512x32 .i32} {x2 : Vec Ideal S1x1x32 .i32} {x3 : Vec Ideal S28x28 .f32} {x4 : Vec Ideal S1x28 .f32}

theorem load1_apply (h : Inputs T s g len x0 x1 x2 x3 x4) (k : Fin k0_t1_loop.trips) (n : Fin 16) (b : Fin 32) (j : Fin 28) :
    load1 (F := Ideal) arg1 (harg1.unread x0) k n (ix4 0 0 b j) = (s b (16 * k + n) j : ℝ) := by
  have hk : (k : ℕ) < 15 := trips1 ▸ k.2
  unfold load1
  rw [load_apply harg1 x0 (off1_eq k n) _ _ (ix4 0 ⟨16 * k + n, by omega⟩ b j) (fun a => by fin_cases a <;> simp [ix4]), h.scores]

theorem load2_apply (h : Inputs T s g len x0 x1 x2 x3 x4) (k : Fin k0_t2_loop.trips) (n : Fin 16) (b : Fin 32) (j : Fin 28) :
    load2 (F := Ideal) arg1 (harg1.unread x0) k n (ix4 0 0 b j) = (s b (240 + 16 * k + n) j : ℝ) := by
  have hk : (k : ℕ) < 17 := trips2 ▸ k.2
  unfold load2
  rw [load_apply harg1 x0 (off4_eq k n) _ _ (ix4 0 ⟨240 + 16 * k + n, by omega⟩ b j) (fun a => by fin_cases a <;> simp [ix4]), h.scores]

theorem start_word (j : Fin 28) : (BitVec.ofNat 32 j = 25#32) = (j = 25) := by
  decide +revert

theorem exp_table (h : Inputs T s g len x0 x1 x2 x3 x4) (i j : Fin 28) :
    k0_pay181 (F := Ideal) x3 (ix2 i j) = (Real.exp (T i j) : ℝ) := by
  unfold k0_pay181
  pointwise
  rw [h.table, Ideal.exp_coe]

theorem all_ones (i j : Fin 28) : k0_pay182 (F := Ideal) (ix2 i j) = 1 := by
  unfold k0_pay182
  pointwise

/-- The state before the first position. -/
theorem follows_start (T : Fin 28 → Fin 28 → ℝ) (s : Scores) :
    Follows T s 0 (k0_pay186 (F := Ideal), k0_pay187 (F := Ideal), k0_pay188 (F := Ideal), k0_pay187 (F := Ideal)) := by
  refine ⟨fun _ j => if j = 25 then 1 else 0, fun _ => 0, fun _ => 1, fun _ => 0, fun b j => ?_, fun b j => ?_, fun b j => ?_,
    fun b j => ?_, fun b => ?_, fun b j => ?_⟩
  · unfold k0_pay186
    pointwise
    rw [select_eq]
    simp only [start_word]
    split <;> simp
  · unfold k0_pay187
    pointwise
    exact EReal.coe_zero.symm
  · unfold k0_pay188
    pointwise
    exact EReal.coe_one.symm
  · unfold k0_pay187
    pointwise
    exact EReal.coe_zero.symm
  · simp
  · simp [forward]

theorem counted_start (s : Scores) (g : Tags) :
    Counted s g 0 (k0_pay189 (F := Ideal)) (k0_pay190 (F := Ideal)) (k0_pay191 (F := Ideal)) where
  acc b := by
    unfold k0_pay189
    pointwise
    simp [emitted]
  count i j := by
    unfold k0_pay190
    pointwise
    simp [moves]
  carry b i := by
    unfold k0_pay191
    pointwise
    rw [select_eq]
    simp only [start_word]
    show _ = ((if i = 25 then 1 else 0 : ℝ) : EReal)
    split <;> simp

/-- The first loop: 240 positions. -/
theorem loop1 (h : Inputs T s g len x0 x1 x2 x3 x4) (k : ℕ) (hk : k ≤ 15) :
    let S := st_k0_t1 (F := Ideal) Variants.none c none i arg1 harg1 arg2 harg2 arg3 harg3 arg4 harg4 arg5 harg5 arg6 harg6 arg7 harg7
      x3 (harg1.unread x0) (harg2.unread x1) (k0_pay186, k0_pay187, k0_pay188, k0_pay187, k0_pay189, k0_pay190, k0_pay191) k
    Follows T s (16 * k) (S.1, S.2.1, S.2.2.1, S.2.2.2.1) ∧ Counted s g (16 * k) S.2.2.2.2.1 S.2.2.2.2.2.1 S.2.2.2.2.2.2 := by
  induction k with
  | zero => exact ⟨follows_start T s, counted_start s g⟩
  | succ k ih =>
    obtain ⟨ih1, ih2⟩ := ih (by omega)
    have hk' : k < k0_t1_loop.trips := trips1 ▸ hk
    rw [show k + 1 = (⟨k, hk'⟩ : Fin k0_t1_loop.trips).val + 1 from rfl, st_k0_t1_succ]
    revert ih1 ih2
    generalize st_k0_t1 (F := Ideal) Variants.none c none i arg1 harg1 arg2 harg2 arg3 harg3 arg4 harg4 arg5 harg5 arg6 harg6 arg7 harg7
      x3 (harg1.unread x0) (harg2.unread x1) _ k = S
    obtain ⟨E, o, r, l, acc, count, Oc⟩ := S
    intro ih1 ih2
    rw [trip1_eq]
    exact ⟨ih1.chunk (exp_table h) all_ones (load1_apply arg1 harg1 h ⟨k, hk'⟩) le_rfl,
      ih2.chunk (fun t b j => by
        rw [load_apply harg1 x0 (off2_eq ⟨k, hk'⟩) _ _ (ix4 0 ⟨16 * k + t, by omega⟩ b j) (fun a => by fin_cases a <;> simp [ix4]), h.scores])
        (fun t b => by
        rw [load_apply harg2 x1 (off3_eq ⟨k, hk'⟩) _ _ (ix3 0 ⟨16 * k + t, by omega⟩ b) (fun a => by fin_cases a <;> simp [ix3]), h.tags])⟩

theorem ended_start (h : Inputs T s g len x0 x1 x2 x3 x4) (b : Fin 32) : k0_pay189 (F := Ideal) (ix2 0 b) = (ended T g len 240 b : ℝ) := by
  rw [ended, Finset.sum_eq_zero fun t ht => if_neg (by have := h.range b; have := Finset.mem_range.1 ht; omega)]
  unfold k0_pay189
  pointwise
  exact EReal.coe_zero.symm

theorem isLast_apply (h : Inputs T s g len x0 x1 x2 x3 x4) (k : Fin k0_t2_loop.trips) (n : ℕ) (hn : n < 16) (b : Fin 32) (j : Fin 28) :
    isLast (k0_pay185 (F := Ideal) x2) (Scf.iv 15#32 1#32 k) n (ix2 b j) = BitVec.ofBool (decide (len b = 240 + 16 * k + n + 1)) := by
  unfold isLast k0_pay185 k0_pay184
  pointwise
  rw [h.lens]
  have hk : (k : ℕ) < 17 := trips2 ▸ k.2
  have hb := h.range b
  refine congrArg BitVec.ofBool ?_
  show decide (_ = _) = _
  refine decide_eq_decide.2 ?_
  show Scf.iv 15#32 1#32 k * 16#32 + BitVec.ofNat 32 n = BitVec.ofNat 32 (len b) - 1#32 ↔ _
  rw [chunk_word, ← BitVec.toNat_inj]
  simp only [BitVec.toNat_add, BitVec.toNat_sub, BitVec.toNat_ofNat]
  omega

/-- The second loop: the other 272 positions. -/
theorem loop2 (h : Inputs T s g len x0 x1 x2 x3 x4) (k : ℕ) (hk : k ≤ 17) {E o r l acc count Oc}
    (h1 : Follows T s 240 (E, o, r, l)) (h2 : Counted s g 240 acc count Oc) :
    let S := st_k0_t2 (F := Ideal) Variants.none c none i arg1 harg1 arg2 harg2 arg3 harg3 arg4 harg4 arg5 harg5 arg6 harg6 arg7 harg7
      (k0_pay181 x3) k0_pay182 (k0_pay183 x4) (k0_pay184 (F := Ideal) x2) (k0_pay185 (F := Ideal) x2) labels 15#32 1#32
      (harg1.unread x0) (harg2.unread x1) (E, o, r, l, E, o, acc, count, Oc, k0_pay189) k
    Follows T s (240 + 16 * k) (S.1, S.2.1, S.2.2.1, S.2.2.2.1) ∧ Keeps T s len (240 + 16 * k) (S.2.2.2.2.1, S.2.2.2.2.2.1)
      ∧ Counted s g (240 + 16 * k) S.2.2.2.2.2.2.1 S.2.2.2.2.2.2.2.1 S.2.2.2.2.2.2.2.2.1
      ∧ ∀ b, S.2.2.2.2.2.2.2.2.2 (ix2 0 b) = (ended T g len (240 + 16 * k) b : ℝ) := by
  induction k with
  | zero => exact ⟨h1, fun b j hb => absurd hb (by have := h.range b; omega), h2, ended_start h⟩
  | succ k ih =>
    obtain ⟨ih1, ih2, ih3, ih4⟩ := ih (by omega)
    have hk' : k < k0_t2_loop.trips := trips2 ▸ hk
    rw [show k + 1 = (⟨k, hk'⟩ : Fin k0_t2_loop.trips).val + 1 from rfl, st_k0_t2_succ]
    revert ih1 ih2 ih3 ih4
    generalize st_k0_t2 (F := Ideal) Variants.none c none i arg1 harg1 arg2 harg2 arg3 harg3 arg4 harg4 arg5 harg5 arg6 harg6 arg7 harg7
      _ _ _ _ _ _ _ _ (harg1.unread x0) (harg2.unread x1) _ k = S
    obtain ⟨E, o, r, l, eE, eo, acc, count, Oc, ends⟩ := S
    intro ih1 ih2 ih3 ih4
    rw [trip2_eq]
    have hG : ∀ (t : Fin 16) (b : Fin 32), View.readAt (Elt Ideal) arg2.view (Rect.unit (s := S1x512x32) (k0_off6 ⟨k, hk'⟩) S1x16x32.size
        (k0_off6_inb ⟨k, hk'⟩)).toLoadRect (harg2.unread x1) (ix3 0 t b) = g b (240 + 16 * k + t) := fun t b => by
      rw [load_apply harg2 x1 (off6_eq ⟨k, hk'⟩) _ _ (ix3 0 ⟨240 + 16 * k + t, by omega⟩ b) (fun a => by fin_cases a <;> simp [ix3]), h.tags]
    exact ⟨ih1.chunk (exp_table h) all_ones (load2_apply arg1 harg1 h ⟨k, hk'⟩) le_rfl,
      Keeps.chunk ih1 ih2 (exp_table h) all_ones (load2_apply arg1 harg1 h ⟨k, hk'⟩) (isLast_apply h ⟨k, hk'⟩) le_rfl,
      ih3.chunk (fun t b j => by
        rw [load_apply harg1 x0 (off5_eq ⟨k, hk'⟩) _ _ (ix4 0 ⟨240 + 16 * k + t, by omega⟩ b j) (fun a => by fin_cases a <;> simp [ix4]), h.scores])
        hG,
      ended_chunk ih4 (fun j => by unfold k0_pay183; pointwise; exact h.last j)
        (fun b => by unfold k0_pay184; pointwise; exact h.lens b) (fun b => ⟨by have := h.range b; omega, (h.range b).2⟩) hG
        (chunk_word ⟨k, hk'⟩) (by omega)⟩

/-- The unlabeled result: over the rows, the log of the weight of all paths. -/
def unlabeled (T : Fin 28 → Fin 28 → ℝ) (s : Scores) (len : Fin 32 → ℕ) : ℝ :=
  ∑ b, Real.log (∑ j, forward T s b (len b) j * Real.exp (T j 26))

/-- The labeled result: what the tags' path scores, over the rows. -/
def labeled (T : Fin 28 → Fin 28 → ℝ) (s : Scores) (g : Tags) (len : Fin 32 → ℕ) : ℝ :=
  (∑ b, (emitted s g 512 b + ended T g len 512 b)) + ∑ i, ∑ j, moves g 512 i j * T i j

theorem pay3_apply (h : Inputs T s g len x0 x1 x2 x3 x4) {e o : FVec Ideal S32x28 .f32} (hk : Keeps T s len 512 (e, o)) (l : Fin 128) :
    k0_pay3 (F := Ideal) (k0_pay183 x4) e o (ix3 0 0 l) = (unlabeled T s len : ℝ) := by
  unfold k0_pay3 k0_pay183
  pointwise
  rw [unlabeled, coe_sum]
  refine Finset.sum_congr rfl fun b _ => ?_
  have hf : ∀ j, o (ix2 b j) + Ideal.log (e (ix2 b j)) + x4 (ix2 0 j)
      = (Real.log (forward T s b (len b) j * Real.exp (T j 26)) : ℝ) := fun j => by
    obtain ⟨v, r, hv, hr, hvr⟩ := hk b j (h.range b).2
    have hp : 0 < forward T s b (len b) j := by
      obtain ⟨n, hn⟩ := Nat.exists_eq_succ_of_ne_zero (show len b ≠ 0 by have := h.range b; omega)
      rw [hn]
      exact forward_pos T s b n j
    have hv0 : 0 < v := by
      rw [← hvr] at hp
      exact pos_of_mul_pos_left hp (Real.exp_pos _).le
    rw [show e (ix2 b j) = v from hv, show o (ix2 b j) = r from hr, h.last, log_coe_pos hv0, ← EReal.coe_add, ← EReal.coe_add, ← hvr,
      Real.log_mul (mul_pos hv0 (Real.exp_pos _)).ne' (Real.exp_pos _).ne', Real.log_mul hv0.ne' (Real.exp_pos _).ne', Real.log_exp,
      Real.log_exp]
    congr 1
    ring
  have hp : ∀ j, 0 < forward T s b (len b) j * Real.exp (T j 26) := fun j => by
    obtain ⟨n, hn⟩ := Nat.exists_eq_succ_of_ne_zero (show len b ≠ 0 by have := h.range b; omega)
    rw [hn]
    exact mul_pos (forward_pos T s b n j) (Real.exp_pos _)
  rw [← lse_log _ _ hp hf, lse, ofBits_neg_inf]
  exact congrArg (HAdd.hAdd _) (congrArg Ideal.log (zero_add _).symm)

theorem pay4_apply (h : Inputs T s g len x0 x1 x2 x3 x4) {acc count Oc} (hc : Counted s g 512 acc count Oc) {e : FVec Ideal S1x32 .f32}
    (he : ∀ b, e (ix2 0 b) = (ended T g len 512 b : ℝ)) (l : Fin 128) :
    k0_pay4 (F := Ideal) x3 acc count e (ix3 0 0 l) = (labeled T s g len : ℝ) := by
  unfold k0_pay4
  pointwise
  rw [labeled, EReal.coe_add, coe_sum, coe_sum]
  congr 1
  · exact Finset.sum_congr rfl fun b _ => by rw [hc.acc, he, EReal.coe_add]
  · refine Finset.sum_congr rfl fun i _ => ?_
    rw [coe_sum]
    exact Finset.sum_congr rfl fun j _ => by rw [hc.count, h.table, EReal.coe_mul]

end Loops
end Cert.Proof

end
-- ==== Proof.Outputs.lean ====
/- What the kernel leaves in its two outputs. -/
module

public import proofs.«01_k».proof.Proof.Loops
public import proofs.«01_k».proof.Proof.Gen.KernelIdeal.Value
public import Idealize.ShloMosaic.Lib.Pipeline.ValueKit

@[expose] public section

noncomputable section

namespace Cert.Proof

open Idealize.ShloMosaic Idealize.ShloMosaic.TcCoe Cert.KernelIdeal Cert.KernelIdeal.Gen

section Outputs

variable (c : Dev nD) (i : grid0.Coords) (arg1 : Memref sig .tc .vmem S1x512x32x28 .f32) (harg1 : arg1.IsWhole)
  (arg2 : Memref sig .tc .vmem S1x512x32 .i32) (harg2 : arg2.IsWhole) (arg3 : Memref sig .tc .vmem S1x1x32 .i32) (harg3 : arg3.IsWhole)
  (arg4 : Memref sig .tc .vmem S28x28 .f32) (harg4 : arg4.IsWhole) (arg5 : Memref sig .tc .vmem S1x28 .f32) (harg5 : arg5.IsWhole)
  (arg6 : Memref sig .tc .vmem S1x1x128 .f32) (harg6 : arg6.IsWhole) (arg7 : Memref sig .tc .vmem S1x1x128 .f32) (harg7 : arg7.IsWhole)
  {T : Fin 28 → Fin 28 → ℝ} {s : Scores} {g : Tags} {len : Fin 32 → ℕ} {x0 : Vec Ideal S1x512x32x28 .f32}
  {x1 : Vec Ideal S1x512x32 .i32} {x2 : Vec Ideal S1x1x32 .i32} {x3 : Vec Ideal S28x28 .f32} {x4 : Vec Ideal S1x28 .f32}

/-- What the kernel leaves in its first output. -/
theorem out5_apply (h : Inputs T s g len x0 x1 x2 x3 x4) (l : Fin 128) :
    out0_A_5 (F := Ideal) c i arg1 harg1 arg2 harg2 arg3 harg3 arg4 harg4 arg5 harg5 arg6 harg6 arg7 harg7 x0 x1 x2 x3 x4 (ix3 0 0 l)
      = (unlabeled T s len : ℝ) := by
  have hz3 : (![0, 0, 0] : Fin 3 → ℕ) = fun _ => 0 := by decide
  have hz2 : (![0, 0] : Fin 2 → ℕ) = fun _ => 0 := by decide
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  rw [View.canon_unit_zero hz3]
  sl_unfold_words
  simp only [View.readAt_eq_ld, harg3.read_unread, harg4.read_unread, harg5.read_unread, View.ld_unit_zero (S := S28x28) hz2,
    View.ld_unit_zero (S := S1x28) hz2, View.ld_unit_zero (S := S1x1x32) hz3]
  rw [show Scf.trips k0_t1_loop.lb k0_t1_loop.ub k0_t1_loop.st = 15 from trips1,
    show Scf.trips 15#32 (Scalar.addi 15#32 17#32) 1#32 = 17 from trips2]
  obtain ⟨h1, h2⟩ := loop1 c i arg1 harg1 arg2 harg2 arg3 harg3 arg4 harg4 arg5 harg5 arg6 harg6 arg7 harg7 h 15 le_rfl
  exact pay3_apply h (loop2 c i arg1 harg1 arg2 harg2 arg3 harg3 arg4 harg4 arg5 harg5 arg6 harg6 arg7 harg7 h 17 le_rfl h1 h2).2.1 l

/-- What the kernel leaves in its second output. -/
theorem out6_apply (h : Inputs T s g len x0 x1 x2 x3 x4) (l : Fin 128) :
    out0_A_6 (F := Ideal) c i arg1 harg1 arg2 harg2 arg3 harg3 arg4 harg4 arg5 harg5 arg6 harg6 arg7 harg7 x0 x1 x2 x3 x4 (ix3 0 0 l)
      = (labeled T s g len : ℝ) := by
  have hz3 : (![0, 0, 0] : Fin 3 → ℕ) = fun _ => 0 := by decide
  have hz2 : (![0, 0] : Fin 2 → ℕ) = fun _ => 0 := by decide
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  rw [View.canon_unit_zero hz3]
  sl_unfold_words
  simp only [View.readAt_eq_ld, harg3.read_unread, harg4.read_unread, harg5.read_unread, View.ld_unit_zero (S := S28x28) hz2,
    View.ld_unit_zero (S := S1x28) hz2, View.ld_unit_zero (S := S1x1x32) hz3]
  rw [show Scf.trips k0_t1_loop.lb k0_t1_loop.ub k0_t1_loop.st = 15 from trips1,
    show Scf.trips 15#32 (Scalar.addi 15#32 17#32) 1#32 = 17 from trips2]
  obtain ⟨h1, h2⟩ := loop1 c i arg1 harg1 arg2 harg2 arg3 harg3 arg4 harg4 arg5 harg5 arg6 harg6 arg7 harg7 h 15 le_rfl
  obtain ⟨-, -, h3, h4⟩ := loop2 c i arg1 harg1 arg2 harg2 arg3 harg3 arg4 harg4 arg5 harg5 arg6 harg6 arg7 harg7 h 17 le_rfl h1 h2
  exact pay4_apply h h3 h4 l

end Outputs

section Arrays

variable (m : (ℓ : Loc nD τ sig) → Buf (Elt Ideal) ℓ) (c : Dev nD) {T : Fin 28 → Fin 28 → ℝ} {s : Scores} {g : Tags} {len : Fin 32 → ℕ}

/-- The inputs, read through the windows of the one grid point. -/
abbrev Ready (T : Fin 28 → Fin 28 → ℝ) (s : Scores) (g : Tags) (len : Fin 32 → ℕ) : Prop :=
  ∀ t : Fin cfg0.N, Inputs T s g len (iblk m c 0 t) (iblk m c 1 t) (iblk m c 2 t) (iblk m c 3 t) (iblk m c 4 t)

/-- The first result array. -/
theorem array5 (h : Ready m c T s g len) : (dats m 0 c).arrAt 5 cfg0.N = fun _ => ((unlabeled T s len : ℝ) : EReal) := by
  refine (dats m 0 c).arrAt_eq_of_covers 5 _ (by decide +kernel) fun t hf y => ?_
  blk_simp
  rw [after0_5]
  unfold outsAt0
  dsimp only
  exact (congrArg _ (funext fun a => by fin_cases a <;> first | rfl | exact Subsingleton.elim (α := Fin 1) _ _)).trans
    (out5_apply c _ _ _ _ _ _ _ _ _ _ _ _ _ _ _ (h t) (y 2))

/-- The second result array. -/
theorem array6 (h : Ready m c T s g len) : (dats m 0 c).arrAt 6 cfg0.N = fun _ => ((labeled T s g len : ℝ) : EReal) := by
  refine (dats m 0 c).arrAt_eq_of_covers 6 _ (by decide +kernel) fun t hf y => ?_
  blk_simp
  rw [after0_6]
  unfold outsAt0
  dsimp only
  exact (congrArg _ (funext fun a => by fin_cases a <;> first | rfl | exact Subsingleton.elim (α := Fin 1) _ _)).trans
    (out6_apply c _ _ _ _ _ _ _ _ _ _ _ _ _ _ _ (h t) (y 2))

end Arrays
end Cert.Proof

end
-- ==== Proof.Windows.lean ====
/- What the kernel's windows hold, from the arguments. -/
module

public import proofs.«01_k».proof.Proof.Outputs
public import Idealize.ShloMosaic.Lib.StableHlo.ReadAt

@[expose] public section

noncomputable section

namespace Cert.Proof

open Idealize.ShloMosaic Idealize.ShloMosaic.TcCoe Cert.KernelIdeal Cert.KernelIdeal.Gen

variable (m : (ℓ : Loc nD τ sig) → Buf (Elt Ideal) ℓ) (c : Dev nD)

theorem idx : ∀ t : Fin cfg0.N, win0_0.index t = ![0, 0, 0, 0] ∧ win0_1.index t = ![0, 0, 0] ∧ win0_2.index t = ![0, 0, 0]
    ∧ win0_3.index t = ![0, 0] ∧ win0_4.index t = ![0, 0] :=
  (by decide +kernel : ∀ t : Fin grid0.N, _)

theorem iblk0 (t : Fin cfg0.N) : iblk m c 0 t = V m c (Pipeline.arrRef spec0 0) := by
  blk_ext! [iblk, idx t]

theorem iblk1 (t : Fin cfg0.N) : iblk m c 1 t = V m c (Pipeline.arrRef spec0 1) := by
  blk_ext! [iblk, idx t]

theorem iblk2 (t : Fin cfg0.N) : iblk m c 2 t = V m c (Pipeline.arrRef spec0 2) := by
  blk_ext! [iblk, idx t]

theorem iblk3 (t : Fin cfg0.N) : iblk m c 3 t = V m c (Pipeline.arrRef spec0 3) := by
  blk_ext! [iblk, idx t]

theorem iblk4 (t : Fin cfg0.N) : iblk m c 4 t = V m c (Pipeline.arrRef spec0 4) := by
  blk_ext! [iblk, idx t]

theorem window0 (t : Fin 512) (b : Fin 32) (j : Fin 28) :
    V m c (Pipeline.arrRef spec0 0) (ix4 0 t b j) = m (c, main_arg0) (ix3 b t j) := by
  unfold V
  after_reads_at

theorem window1 (t : Fin 512) (b : Fin 32) :
    V m c (Pipeline.arrRef spec0 1) (ix3 0 t b) = if m (c, main_arg3) (ix2 b t) = 1#1 then m (c, main_arg2) (ix2 b t) else 28#32 := by
  unfold V
  after_reads_at
  rfl

theorem window2 (b : Fin 32) :
    V m c (Pipeline.arrRef spec0 2) (ix3 0 0 b) = m (c, main_arg1) (ix1 b) := by
  unfold V
  after_reads_at

theorem window4 (j : Fin 28) :
    V m c (Pipeline.arrRef spec0 4) (ix2 0 j) = m (c, main_arg4) (ix2 j 26) := by
  unfold V
  after_reads_at

theorem window3 (i j : Fin 28) :
    V m c (Pipeline.arrRef spec0 3) (ix2 i j) = m (c, main_arg4) (ix2 i j) := by
  unfold V
  after_reads_at

end Cert.Proof

end
-- ==== Proof.RefValue.lean ====
/- The reference's unlabeled result. -/
module

public import proofs.«01_k».proof.Proof.RefScan
public import proofs.«01_k».proof.Proof.Gathers
public import proofs.«01_k».proof.Proof.Loops

@[expose] public section

noncomputable section

namespace Cert.Proof

open Idealize.ShloMosaic Idealize.ShloMosaic.TcCoe Cert.ReferenceIdeal Cert.ReferenceIdeal.Gen Cert.ReferenceIdeal.Value

section

variable {V0 : Valuation τ sig (Elt Ideal)} {T : Fin 28 → Fin 28 → ℝ} {s : Scores} {len : Fin 32 → ℕ}

/-- The three arguments the reference's unlabeled result reads, as reals and naturals. -/
structure Known (V0 : Valuation τ sig (Elt Ideal)) (T : Fin 28 → Fin 28 → ℝ) (s : Scores) (len : Fin 32 → ℕ) : Prop
    extends Given V0 T s where
  lens : ∀ b, V0 main_arg1 (ix1 b) = BitVec.ofNat 32 (len b)
  range : ∀ b, 256 ≤ len b ∧ len b ≤ 512

theorem less_one {n : ℕ} (h : 256 ≤ n ∧ n ≤ 512) : IntOp.subi (BitVec.ofNat 32 n) 1#32 = BitVec.ofNat 32 (n - 1) := by
  apply BitVec.eq_of_toNat_eq
  simp only [IntOp.subi, BitVec.toNat_sub, BitVec.toNat_ofNat]
  omega

theorem step_word (h : Known V0 T s len) (b : Fin 32) : res_main_call0_v4 V0 (ix3 b 0 0) = BitVec.ofNat 32 (len b - 1) := by
  have hr := h.range b
  unfold res_main_call0_v4 res_main_v324
  pointwise [h.lens]
  rw [less_one hr, wrap_word (by omega)]

theorem idx_32_1_1 (x : S32x1x1.Idx) : x = ix3 (x 0) 0 0 := by
  funext c
  match c with
  | ⟨0, _⟩ => rfl
  | ⟨1, _⟩ => exact Subsingleton.elim (α := Fin 1) _ _
  | ⟨2, _⟩ => exact Subsingleton.elim (α := Fin 1) _ _

theorem idx_1_1_128 (x : S1x1x128.Idx) : ∃ l : Fin 128, x = ix3 0 0 l := ⟨x 2, by
  funext c
  match c with
  | ⟨0, _⟩ => exact Subsingleton.elim (α := Fin 1) _ _
  | ⟨1, _⟩ => exact Subsingleton.elim (α := Fin 1) _ _
  | ⟨2, _⟩ => rfl⟩

theorem v331_apply (h : Known V0 T s len) (b : Fin 32) (j : Fin 28) :
    res_main_v331 V0 (ix2 b j) = ((Real.log (forward T s b (len b) j * Real.exp (T j 26)) : ℝ) : EReal) := by
  unfold res_main_v331
  generalize hZ : (addf (pad S32x512x28x28 _ _ _ _ _ _ _) _ : FVec Ideal S32x512x28x28 .f32) = Z
  have hlog : Logs 512 Z (upTo (moving T s)) := by
    rw [← hZ]
    exact up rfl rfl _ _ _ _ _ _ _ _ _ _ _ _ _ _ (moving_pos T s) (down0 h.toGiven) (up1 h.toGiven)
  clear hZ
  pointwise
  have hr := h.range b
  have hk : len b - 1 < 512 := by omega
  generalize hF : Finset.fold IntOp.andi (1#1) _ _ = w
  obtain rfl : w = 1#1 := hF.symm.trans (fold_and _ _ fun x => in_range (k := 511) (by omega) (n := len (x 0) - 1)
    (by have := h.range (x 0); omega) _ ((congrArg _ (idx_32_1_1 x)).trans (step_word h (x 0))))
  rw [gather_step _ _ b j ⟨len b - 1, hk⟩ (step_word h b)]
  pointwise [h.table]
  have hs : len b - 1 + 1 = len b := by omega
  have hpos := forward_pos T s b (len b - 1) j
  rw [hs] at hpos
  rw [hlog, upTo_moving, hs, ← EReal.coe_add, Real.log_mul hpos.ne' (Real.exp_pos _).ne', Real.log_exp]

theorem fold_row (Y : FVec Ideal S32x28 .f32) (b : Fin 32) :
    (Host.reduce FloatOps.maximumf Y (constant S_ .f32 0xFF800000#32) reducesTo_S32x28_S32_d1 h_S_ : FVec Ideal S32 .f32) (ix1 b)
      = Finset.univ.fold max ⊥ fun j : Fin 28 => Y (ix2 b j) := by
  pointwise [ofBits_neg_inf]

theorem v332_apply (b : Fin 32) : (res_main_v332 V0 (ix1 b) : EReal)
    = Finset.univ.fold max (⊥ : EReal) fun j : Fin 28 => (res_main_v331 V0 (ix2 b j) : EReal) := fold_row _ b

/-- The reference's unlabeled result. -/
theorem ref_unlabeled (h : Known V0 T s len) :
    (broadcastInDim S1x1x128 ![] bcast_S_S1x1x128 (Host.reduceAdd (addf (res_main_v332 V0)
        (Host.log (Host.reduceAdd (Host.exp (subf (res_main_v331 V0) (broadcastInDim S32x28 ![0, 1] bcast_S32x1_S32x28_0_1
          (broadcastInDim S32x1 ![0] bcast_S32_S32x1_0 (res_main_v332 V0))))) (constant S_ .f32 0x00000000#32)
          reducesTo_S32x28_S32_d1 h_S_))) (constant S_ .f32 0x00000000#32) reducesTo_S32_S_d0 h_S_) : FVec Ideal S1x1x128 .f32)
      = fun _ => ((unlabeled T s len : ℝ) : EReal) := by
  funext x
  obtain ⟨l, rfl⟩ := idx_1_1_128 x
  pointwise [v332_apply, Ideal.ofBits_zero_f32]
  have hb : ∀ b, lse (fun j : Fin 28 => res_main_v331 V0 (ix2 b j)) = ((Real.log (∑ j, forward T s b (len b) j * Real.exp (T j 26)) : ℝ) : EReal) := fun b => by
    have hr := h.range b
    refine lse_log _ _ (fun j => mul_pos ?_ (Real.exp_pos _)) (v331_apply h b)
    have hpos := forward_pos T s b (len b - 1) j
    rwa [show len b - 1 + 1 = len b by omega] at hpos
  unfold unlabeled
  rw [coe_sum]
  simp only [lse, zero_add] at hb
  exact Finset.sum_congr rfl fun b _ => hb b

end
end Cert.Proof

end
-- ==== Proof.Path.lean ====
/- The counts of a path of labels, masked past its length, come to the path's own score. -/
module

public import proofs.«01_k».proof.Proof.Loops

@[expose] public section

noncomputable section

namespace Cert.Proof

open Idealize.ShloMosaic

variable (T : Fin 28 → Fin 28 → ℝ) (s : Scores) (y : Fin 32 → ℕ → Fin 28) (len : Fin 32 → ℕ)

/-- A path's label words, with no label past the path's length. -/
def masked : Tags := fun b t => if t < len b then BitVec.ofNat 32 (y b t) else 28#32

theorem small_word {a c : ℕ} (ha : a < 1000) (hc : c < 1000) : BitVec.ofNat 32 a = BitVec.ofNat 32 c ↔ a = c := by
  constructor
  · intro h
    have := congrArg BitVec.toNat h
    simp only [BitVec.toNat_ofNat] at this
    omega
  · rintro rfl
    rfl

theorem hot_label (k j : Fin 28) : hot (BitVec.ofNat 32 k) j = if j = k then 1 else 0 := by
  unfold hot
  refine if_congr ?_ rfl rfl
  rw [small_word (by omega) (by omega), Fin.ext_iff]

theorem hot_none (j : Fin 28) : hot 28#32 j = 0 := by
  unfold hot
  refine if_neg ?_
  rw [show (28#32) = BitVec.ofNat 32 28 from rfl, small_word (by omega) (by omega)]
  omega

/-- The indicator of the label picks that label's value. -/
theorem sum_hot (f : Fin 28 → ℝ) (b : Fin 32) (t : ℕ) :
    ∑ j, f j * hot (masked y len b t) j = if t < len b then f (y b t) else 0 := by
  unfold masked
  split
  · simp only [hot_label, mul_ite, mul_one, mul_zero, Finset.sum_ite_eq', Finset.mem_univ, if_true]
  · simp only [hot_none, mul_zero, Finset.sum_const_zero]

/-- What the path's first step scores. -/
def entered (b : Fin 32) : ℝ := T 25 (y b 0) + s b 0 (y b 0)

/-- What a later step scores. -/
def stepped (b : Fin 32) (t : ℕ) : ℝ :=
  if t + 1 < len b then T (y b t) (y b (t + 1)) + s b (t + 1) (y b (t + 1)) else 0

/-- What leaving scores. -/
def left (b : Fin 32) : ℝ := T (y b (len b - 1)) 26

theorem ended_masked (b : Fin 32) (h : 256 ≤ len b ∧ len b ≤ 512) : ended T (masked y len) len 512 b = left T y len b := by
  unfold ended left
  rw [Finset.sum_eq_single (len b - 1)]
  · rw [if_pos (by omega), sum_hot y len (fun j => T j 26), if_pos (by omega)]
  · intro t _ ht
    exact if_neg (by omega)
  · intro hn
    exact absurd (Finset.mem_range.2 (by omega)) hn

theorem emitted_masked (b : Fin 32) :
    emitted s (masked y len) 512 b = ∑ t ∈ Finset.range 512, if t < len b then s b t (y b t) else 0 :=
  Finset.sum_congr rfl fun t _ => sum_hot y len (s b t) b t

/-- The score of the move into a position. -/
def moved (b : Fin 32) : ℕ → ℝ
  | 0 => T 25 (y b 0)
  | t + 1 => T (y b t) (y b (t + 1))

theorem before_masked (b : Fin 32) (t : ℕ) (h : t < len b) :
    ∑ i, before (masked y len) b t i * T i (y b t) = moved T y b t := by
  cases t with
  | zero => simp only [before, moved, ite_mul, one_mul, zero_mul, Finset.sum_ite_eq', Finset.mem_univ, if_true]
  | succ t =>
    simp only [before, moved]
    rw [Finset.sum_congr rfl fun i _ => mul_comm _ _, sum_hot y len (fun i => T i (y b (t + 1))), if_pos (by omega)]

theorem moves_masked : ∑ i, ∑ j, moves (masked y len) 512 i j * T i j
    = ∑ b, ∑ t ∈ Finset.range 512, if t < len b then moved T y b t else 0 := by
  have h : ∀ i j, moves (masked y len) 512 i j * T i j
      = ∑ b, ∑ t ∈ Finset.range 512, before (masked y len) b t i * (T i j * hot (masked y len b t) j) := fun i j => by
    unfold moves
    rw [Finset.sum_comm, Finset.sum_mul]
    refine Finset.sum_congr rfl fun b _ => ?_
    rw [Finset.sum_mul]
    exact Finset.sum_congr rfl fun t _ => by ring
  simp only [h]
  rw [Finset.sum_congr rfl fun i _ => Finset.sum_comm, Finset.sum_comm]
  refine Finset.sum_congr rfl fun b _ => ?_
  rw [Finset.sum_congr rfl fun i _ => Finset.sum_comm, Finset.sum_comm]
  refine Finset.sum_congr rfl fun t _ => ?_
  simp only [← Finset.mul_sum, sum_hot]
  split
  · next ht => exact before_masked T y len b t ht
  · simp only [mul_zero, Finset.sum_const_zero]

theorem labeled_masked (h : ∀ b, 256 ≤ len b ∧ len b ≤ 512) :
    labeled T s (masked y len) len
      = ((∑ b, entered T s y b) + ∑ b, ∑ t : Fin 511, stepped T s y len b t) + ∑ b, left T y len b := by
  unfold labeled
  rw [moves_masked, ← Finset.sum_add_distrib, ← Finset.sum_add_distrib, ← Finset.sum_add_distrib]
  refine Finset.sum_congr rfl fun b _ => ?_
  rw [ended_masked T y len b (h b), emitted_masked, Finset.sum_range_succ' _ 511, Finset.sum_range_succ' _ 511,
    if_pos (by have := h b; omega), if_pos (by have := h b; omega), Fin.sum_univ_eq_sum_range (stepped T s y len b) 511]
  have hs : ∀ t, stepped T s y len b t
      = (if t + 1 < len b then s b (t + 1) (y b (t + 1)) else 0) + if t + 1 < len b then moved T y b (t + 1) else 0 := fun t => by
    unfold stepped moved
    split
    · exact add_comm _ _
    · exact (add_zero _).symm
  simp only [hs, Finset.sum_add_distrib, entered, moved]
  ring

end Cert.Proof

end
-- ==== Proof.RefLabeled.lean ====
/- The reference's labeled result. -/
module

public import proofs.«01_k».proof.Proof.RefValue
public import proofs.«01_k».proof.Proof.Path

@[expose] public section

noncomputable section

namespace Cert.Proof

open Idealize.ShloMosaic Idealize.ShloMosaic.TcCoe Cert.ReferenceIdeal Cert.ReferenceIdeal.Gen Cert.ReferenceIdeal.Value

/-- All five arguments, as reals and naturals. -/
structure Path (V0 : Valuation τ sig (Elt Ideal)) (T : Fin 28 → Fin 28 → ℝ) (s : Scores) (len : Fin 32 → ℕ)
    (y : Fin 32 → ℕ → Fin 28) : Prop extends Known V0 T s len where
  tags : ∀ b (t : Fin 512), V0 main_arg2 (ix2 b t) = BitVec.ofNat 32 (y b t)
  mask : ∀ b (t : Fin 512), V0 main_arg3 (ix2 b t) = if t < len b then 1#1 else 0#1

section

variable {V0 : Valuation τ sig (Elt Ideal)} {T : Fin 28 → Fin 28 → ℝ} {s : Scores} {len : Fin 32 → ℕ} {y : Fin 32 → ℕ → Fin 28}

theorem tag_word (h : Path V0 T s len y) (b : Fin 32) (t : Fin 512) :
    res_main_call1_v5 V0 (ix4 b t 0 0) = BitVec.ofNat 32 (y b t) := by
  unfold res_main_call1_v5 res_main_v341
  pointwise [h.tags]
  rw [wrap_word (by omega)]

theorem idx_32_512_1_1 (x : S32x512x1x1.Idx) : x = ix4 (x 0) (x 1) 0 0 := by
  funext c
  match c with
  | ⟨0, _⟩ => rfl
  | ⟨1, _⟩ => rfl
  | ⟨2, _⟩ => exact Subsingleton.elim (α := Fin 1) _ _
  | ⟨3, _⟩ => exact Subsingleton.elim (α := Fin 1) _ _

theorem v343_apply (h : Path V0 T s len y) (b : Fin 32) (t : Fin 512) :
    res_main_v343 V0 (ix2 b t) = ((s b t (y b t) : ℝ) : EReal) := by
  unfold res_main_v343
  pointwise
  generalize hF : Finset.fold IntOp.andi (1#1) _ _ = w
  obtain rfl : w = 1#1 := hF.symm.trans (fold_and _ _ fun x => in_range (k := 27) (by omega) (n := y (x 0) (x 1).val)
    (by omega) _ ((congrArg _ (idx_32_512_1_1 x)).trans (tag_word h (x 0) (x 1))))
  rw [gather_tag _ _ b t _ (tag_word h b t)]
  pointwise [h.scores]

theorem last_word (h : Path V0 T s len y) (b : Fin 32) : res_main_call3_v5 V0 (ix3 b 0 0) = BitVec.ofNat 32 (len b - 1) := by
  have hr := h.range b
  unfold res_main_call3_v5 res_main_v383
  pointwise [h.lens]
  rw [less_one hr, wrap_word (by omega)]

theorem v385_apply (h : Path V0 T s len y) (b : Fin 32) :
    res_main_v385 V0 (ix1 b) = BitVec.ofNat 32 (y b (len b - 1)) := by
  have hr := h.range b
  have hk : len b - 1 < 512 := by omega
  unfold res_main_v385
  pointwise
  generalize hF : Finset.fold IntOp.andi (1#1) _ _ = w
  obtain rfl : w = 1#1 := hF.symm.trans (fold_and _ _ fun x => in_range (k := 511) (by omega) (n := len (x 0) - 1)
    (by have := h.range (x 0); omega) _ ((congrArg _ (idx_32_1_1 x)).trans (last_word h (x 0))))
  rw [gather_last _ _ b ⟨len b - 1, hk⟩ (last_word h b)]
  pointwise [h.tags]

theorem select_step {b : Fin 32} {t q : ℕ} (hq : q = t + 1) {z : EReal} (hz : z = 0) :
    Scalar.select (if q < len b then 1#1 else 0#1) (((T (y b t) (y b (t + 1)) : ℝ) : EReal) + ((s b q (y b q) : ℝ) : EReal)) z
      = ((stepped T s y len b t : ℝ) : EReal) := by
  subst hq hz
  unfold stepped
  split
  · exact (EReal.coe_add _ _).symm
  · rfl

theorem ref_run (m : (ℓ : Loc nD τ sig) → Buf (Elt Ideal) ℓ) (ρ : Dev nD → PrngReg) (T : Dev nD → Fin 28 → Fin 28 → ℝ)
    (s : Dev nD → Scores) (len : Dev nD → Fin 32 → ℕ) (y : Dev nD → Fin 32 → ℕ → Fin 28)
    (h : ∀ c, Path (StableHlo.launchContents m c) (T c) (s c) (len c) (y c)) :
    θ_run defs (onTc (τ := τ) (main (F := Ideal))) ⟨m, fun _ => 0, ρ⟩ fun r => ∀ c : Dev nD,
      r.2.mem ((c.tc : Thread nD τ).loc main_v401) = (fun _ => ((unlabeled (T c) (s c) (len c) : ℝ) : EReal))
      ∧ r.2.mem ((c.tc : Thread nD τ).loc main_v402) = (fun _ => ((labeled (T c) (s c) (masked (y c) (len c)) (len c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ⟨(hr c).1.trans (ref_unlabeled (h c).toKnown), (hr c).2.1.trans ?_, (hr c).2.2⟩) (run m ρ)
  have hp := h c
  clear hr h
  generalize T c = T, s c = s, len c = len, y c = y at hp ⊢
  generalize StableHlo.launchContents m c = V0 at hp ⊢
  funext x
  obtain ⟨l, rfl⟩ := idx_1_1_128 x
  unfold res_main_v345 res_main_v360 res_main_v361
  pointwise [v343_apply hp, v385_apply hp, Ideal.ofBits_zero_f32, hp.tags, hp.mask]
  rw [labeled_masked T s y len hp.range, EReal.coe_add, EReal.coe_add, coe_sum, coe_sum, coe_sum]
  refine congrArg₂ (· + ·) (congrArg₂ (· + ·) (Finset.sum_congr rfl fun b _ => ?_) (Finset.sum_congr rfl fun b _ => ?_))
    (Finset.sum_congr rfl fun b _ => ?_)
  · rw [gather_pair _ _ b 25 (y b 0) (by pointwise; rfl) (by pointwise [hp.tags]; exact wrap_word (by omega) _)]
    rw [hp.table, entered, EReal.coe_add]
  · rw [coe_sum]
    refine Finset.sum_congr rfl fun t _ => ?_
    rw [gather_pairs _ _ b t (y b t) (y b (t + 1))
      (by pointwise [hp.tags]; exact wrap_word (by omega) _) (by pointwise [hp.tags]; rw [add_comm 1 (t : ℕ)]; exact wrap_word (by omega) _),
      hp.table]
    exact select_step (add_comm 1 (t : ℕ)) Ideal.ofBits_zero_f32
  · rw [gather_pair _ _ b (y b (len b - 1)) 26 (by pointwise [v385_apply hp]; exact wrap_word (by omega) _) (by pointwise; rfl),
      hp.table, left]

end
end Cert.Proof

end
-- ==== Proof.Claims.lean ====
/- The value claim: from proper arguments, the kernel's two results are the reference's. -/
module

public import proofs.«01_k».proof.Defs
public import proofs.«01_k».proof.Proof.Proper
public import proofs.«01_k».proof.Proof.Windows
public import proofs.«01_k».proof.Proof.RefLabeled
public import proofs.«01_k».proof.Proof.Gen.Pre_proper
public import Idealize.ShloMosaic.Lib.Claim

@[expose] public section

noncomputable section

namespace Cert.Proof

open Idealize.ShloMosaic Idealize.ShloMosaic.TcCoe Idealize.SL.Sem

/-- What the argument arrays hold, as reals, lengths and a path of labels. -/
structure Meant (a0 : FVec Ideal ⟨3, ![32, 512, 28]⟩ .f32) (a1 : IVec ⟨1, ![32]⟩ 32) (a2 : IVec ⟨2, ![32, 512]⟩ 32)
    (a3 : IVec ⟨2, ![32, 512]⟩ 1) (a4 : FVec Ideal ⟨2, ![28, 28]⟩ .f32) (T : Fin 28 → Fin 28 → ℝ) (s : Scores)
    (len : Fin 32 → ℕ) (y : Fin 32 → ℕ → Fin 28) : Prop where
  scores : ∀ b (t : Fin 512) j, a0 (ix3 b t j) = ((s b t j : ℝ) : EReal)
  table : ∀ i j, a4 (ix2 i j) = ((T i j : ℝ) : EReal)
  lens : ∀ b, a1 (ix1 b) = BitVec.ofNat 32 (len b)
  range : ∀ b, 256 ≤ len b ∧ len b ≤ 512
  tags : ∀ b (t : Fin 512), a2 (ix2 b t) = BitVec.ofNat 32 (y b t)
  mask : ∀ b (t : Fin 512), a3 (ix2 b t) = if t < len b then 1#1 else 0#1

section

variable [Cert.Pre_proper.Facts] {a0 : FVec Ideal ⟨3, ![32, 512, 28]⟩ .f32} {a1 : IVec ⟨1, ![32]⟩ 32}
  {a2 : IVec ⟨2, ![32, 512]⟩ 32} {a3 : IVec ⟨2, ![32, 512]⟩ 1} {a4 : FVec Ideal ⟨2, ![28, 28]⟩ .f32}

/-- Proper arguments have a meaning. -/
theorem meant_of_proper (h0 : (Cert.Pre_proper.fn (F := Ideal) a0 a1 a2 a3 a4).1 = fun _ => 1#1)
    (h1 : (Cert.Pre_proper.fn (F := Ideal) a0 a1 a2 a3 a4).2.1 = fun _ => 1#1)
    (h2 : (Cert.Pre_proper.fn (F := Ideal) a0 a1 a2 a3 a4).2.2.1 = fun _ => 1#1)
    (h3 : (Cert.Pre_proper.fn (F := Ideal) a0 a1 a2 a3 a4).2.2.2.1 = fun _ => 1#1)
    (h4 : (Cert.Pre_proper.fn (F := Ideal) a0 a1 a2 a3 a4).2.2.2.2 = fun _ => 1#1) :
    ∃ T s len y, Meant a0 a1 a2 a3 a4 T s len y := by
  have hl := proper_lens a0 a1 a2 a3 a4 h2
  have hw : ∀ b, a1 (ix1 b) = BitVec.ofNat 32 (a1 (ix1 b)).toNat := fun b => by rw [BitVec.ofNat_toNat, BitVec.setWidth_eq]
  refine ⟨fun i j => (a4 (ix2 i j) : EReal).toReal, fun b t j => if h : t < 512 then (a0 (ix3 b ⟨t, h⟩ j) : EReal).toReal else 0,
    fun b => (a1 (ix1 b)).toNat, fun b t => if h : t < 512 then ⟨(a2 (ix2 b ⟨t, h⟩)).toNat, proper_tags a0 a1 a2 a3 a4 h3 b ⟨t, h⟩⟩ else 0,
    fun b t j => ?_, proper_table a0 a1 a2 a3 a4 h1, hw, hl, fun b t => ?_, fun b t => ?_⟩
  · rw [dif_pos t.isLt]
    exact proper_scores a0 a1 a2 a3 a4 h0 b t j
  · rw [dif_pos t.isLt]
    simp
  · have := hl b
    rw [proper_mask a0 a1 a2 a3 a4 h4 b t, hw b, slt_small (by omega) (by omega)]
    simp

end

section

variable {T : Fin 28 → Fin 28 → ℝ} {s : Scores} {len : Fin 32 → ℕ} {y : Fin 32 → ℕ → Fin 28}

theorem path_of (V0 : Valuation Cert.ReferenceIdeal.τ Cert.ReferenceIdeal.sig (Elt Ideal))
    (h : Meant (V0 Cert.ReferenceIdeal.main_arg0) (V0 Cert.ReferenceIdeal.main_arg1) (V0 Cert.ReferenceIdeal.main_arg2)
      (V0 Cert.ReferenceIdeal.main_arg3) (V0 Cert.ReferenceIdeal.main_arg4) T s len y) : Path V0 T s len y where
  scores := h.scores
  table := h.table
  lens := h.lens
  range := h.range
  tags := h.tags
  mask := h.mask

theorem masked_word {p : Prop} [Decidable p] (w : BitVec 32) :
    (if (if p then 1#1 else 0#1) = 1#1 then w else 28#32) = if p then w else 28#32 := by
  by_cases h : p <;> simp [h]

open Cert.KernelIdeal Cert.KernelIdeal.Gen in
theorem ready_of (m : (ℓ : Loc nD τ sig) → Buf (Elt Ideal) ℓ) (c : Dev nD)
    (h : Meant (m (c, main_arg0)) (m (c, main_arg1)) (m (c, main_arg2)) (m (c, main_arg3)) (m (c, main_arg4)) T s len y) :
    Ready m c T s (masked y len) len := fun t => by
  rw [iblk0, iblk1, iblk2, iblk3, iblk4]
  exact {
    scores := fun t b j => (window0 m c t b j).trans (h.scores b t j)
    tags := fun t b => by
      rw [window1, h.mask, h.tags, masked]
      exact masked_word _
    lens := fun b => (window2 m c b).trans (h.lens b)
    table := fun i j => (window3 m c i j).trans (h.table i j)
    last := fun j => (window4 m c j).trans (h.table j 26)
    range := h.range }

end

theorem algebraic : Cert.algebraic_KernelIdeal_ReferenceIdeal_pre_proper := by
  intro m g m' g' hpre hargs
  choose T s len y hm using fun c => meant_of_proper (hpre c).1 (hpre c).2.1 (hpre c).2.2.1 (hpre c).2.2.2.1 (hpre c).2.2.2.2
  refine ⟨fun c => fun _ => ((unlabeled (T c) (s c) (len c) : ℝ) : EReal),
    fun c => fun _ => ((labeled (T c) (s c) (masked (y c) (len c)) (len c) : ℝ) : EReal), ?_, ?_⟩
  · refine (θ_run _ _ _).mono (fun r h c => ⟨(h c).1.trans (array5 m c (ready_of m c (hm c))), (h c).2.1.trans (array6 m c (ready_of m c (hm c))), (h c).2.2⟩)
      (Cert.KernelIdeal.Value.run_blocks m g)
  · refine ref_run m' g' T s len y fun c => path_of _ ?_
    obtain ⟨e0, e1, e2, e3, e4⟩ := hargs c
    have := hm c
    rw [← e0, ← e1, ← e2, ← e3, ← e4] at this
    exact this

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_proper
public import proofs.«01_k».proof.Proof.Gen.KernelIdeal.Value
public import proofs.«01_k».proof.Proof.Gen.ReferenceIdeal.Run
public import proofs.«01_k».proof.Proof.Frames
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_proper.Gen.facts,
  kernel_frame, ideal_frame, fun m ρ _ => ideal_frame m ρ trivial, reference_frame,
  fun m ρ _ => reference_frame m ρ trivial, trivial, algebraic⟩

end Cert.Proof

end
